-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x384x8192 : Shape := ⟨3, ![1, 384, 8192]⟩
abbrev S38016x8192 : Shape := ⟨2, ![38016, 8192]⟩
abbrev S38016x1 : Shape := ⟨2, ![38016, 1]⟩
abbrev S1x384 : Shape := ⟨2, ![1, 384]⟩
abbrev S384x8192 : Shape := ⟨2, ![384, 8192]⟩
abbrev S_ : Shape := ⟨0, ![]⟩
abbrev S384 : Shape := ⟨1, ![384]⟩
abbrev S384x1 : Shape := ⟨2, ![384, 1]⟩

class Facts : Prop where
  bitsLt_bf16_f32 : FTy.bits .bf16 < FTy.bits .f32
  shapeCasts_S1x384x8192_S384x8192 : S1x384x8192.ShapeCasts S384x8192
  reducesTo_S384x8192_S384_d1 : S384x8192.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S_S1x384 : S_.BroadcastsInDim S1x384 (![] : Fin 0 → Fin S1x384.rank)

variable [Facts]

def fn {F : FTy → Type} [FloatOps F] (main_arg0 : FVec F S1x384x8192 .bf16) (main_arg1 : FVec F S38016x8192 .fp8e4m3) (main_arg2 : FVec F S38016x1 .f32) (main_arg3 : IVec S1x384 32) : IVec S384x1 1 × IVec S1x384 1 :=
  let main_v0 : FVec F S1x384x8192 .f32 := (extf .f32 · bitsLt_bf16_f32) main_arg0
  let main_v1 : FVec F S384x8192 .f32 := shapeCast S384x8192 main_v0 shapeCasts_S1x384x8192_S384x8192
  let main_v2 : FVec F S384x8192 .f32 := Host.absf main_v1
  let main_cst : FVec F S_ .f32 := constant S_ .f32 0xFF800000#32
  let main_v3 : FVec F S384 .f32 := (fun x v => Host.reduce FloatOps.maximumf x v reducesTo_S384x8192_S384_d1 h_S_) main_v2 main_cst
  let main_v4 : FVec F S384x1 .f32 := broadcastInDim S384x1 ![0] bcast_S384_S384x1_0 main_v3
  let main_cst_0 : FVec F S_ .f32 := constant S_ .f32 0x3B124925#32
  let main_v5 : FVec F S384x1 .f32 := broadcastInDim S384x1 ![] bcast_S_S384x1 main_cst_0
  let main_v6 : FVec F S384x1 .f32 := mulf main_v4 main_v5
  let main_cst_1 : FVec F S_ .f32 := constant S_ .f32 0x00800000#32
  let main_v7 : FVec F S384x1 .f32 := broadcastInDim S384x1 ![] bcast_S_S384x1 main_cst_1
  let main_v8 : IVec S384x1 1 := cmpf .oge main_v6 main_v7
  let main_cst_2 : FVec F S_ .f32 := constant S_ .f32 0x7E800000#32
  let main_v9 : FVec F S384x1 .f32 := broadcastInDim S384x1 ![] bcast_S_S384x1 main_cst_2
  let main_v10 : IVec S384x1 1 := cmpf .olt main_v6 main_v9
  let main_v11 : IVec S384x1 1 := andi main_v8 main_v10
  let main_cst_3 : FVec F S_ .f32 := constant S_ .f32 0x00000000#32
  let main_v12 : FVec F S384x1 .f32 := broadcastInDim S384x1 ![] bcast_S_S384x1 main_cst_3
  let main_v13 : IVec S384x1 1 := cmpf .oeq main_v6 main_v12
  let main_v14 : IVec S384x1 1 := ori main_v13 main_v11
  let main_c : IVec S_ 32 := constantI S_ 32 38016#32
  let main_v15 : IVec S1x384 32 := broadcastInDim S1x384 ![] bcast_S_S1x384 main_c
  let main_v16 : IVec S1x384 1 := cmpi .slt main_arg3 main_v15
  (main_v14, main_v16)
-- ==== Kernel.lean ====
abbrev S1x384x8192 : Shape := ⟨3, ![1, 384, 8192]⟩
abbrev S38016x8192 : Shape := ⟨2, ![38016, 8192]⟩
abbrev S38016x1 : Shape := ⟨2, ![38016, 1]⟩
abbrev S1x384 : Shape := ⟨2, ![1, 384]⟩
abbrev S384x8192 : Shape := ⟨2, ![384, 8192]⟩
abbrev S384x1 : Shape := ⟨2, ![384, 1]⟩
abbrev S1x38016 : Shape := ⟨2, ![1, 38016]⟩
abbrev S768x8192 : Shape := ⟨2, ![768, 8192]⟩
abbrev S1x768 : Shape := ⟨2, ![1, 768]⟩
abbrev S384x128 : Shape := ⟨2, ![384, 128]⟩
abbrev S128x8192 : Shape := ⟨2, ![128, 8192]⟩
abbrev S128 : Shape := ⟨1, ![128]⟩
abbrev S128x1 : Shape := ⟨2, ![128, 1]⟩
abbrev S128x128 : Shape := ⟨2, ![128, 128]⟩
abbrev S384x768 : Shape := ⟨2, ![384, 768]⟩
abbrev S1x128 : Shape := ⟨2, ![1, 128]⟩
abbrev S384 : Shape := ⟨1, ![384]⟩

abbrev nBuf : Space → Nat
  | .hbm => 10
  | .vmem => 15
  | .smem => 0
  | _ => 0

abbrev bufTy : (tb : Table) → Fin (tcTables nBuf tb) → BufTy
  | .hbm, ⟨0, _⟩ => ⟨S1x384x8192, .bf16⟩
  | .hbm, ⟨1, _⟩ => ⟨S38016x8192, .fp8e4m3⟩
  | .hbm, ⟨2, _⟩ => ⟨S38016x1, .f32⟩
  | .hbm, ⟨3, _⟩ => ⟨S1x384, .i32⟩
  | .hbm, ⟨4, _⟩ => ⟨S384x8192, .bf16⟩
  | .hbm, ⟨5, _⟩ => ⟨S384x1, .i32⟩
  | .hbm, ⟨6, _⟩ => ⟨S1x38016, .f32⟩
  | .hbm, ⟨7, _⟩ => ⟨S384x1, .f32⟩
  | .hbm, ⟨8, _⟩ => ⟨S384x8192, .fp8e4m3⟩
  | .hbm, ⟨9, _⟩ => ⟨S384x1, .f32⟩
  | .local _ .vmem, ⟨0, _⟩ => ⟨S384x8192, .bf16⟩
  | .local _ .vmem, ⟨1, _⟩ => ⟨S384x1, .i32⟩
  | .local _ .vmem, ⟨2, _⟩ => ⟨S768x8192, .fp8e4m3⟩
  | .local _ .vmem, ⟨3, _⟩ => ⟨S768x8192, .fp8e4m3⟩
  | .local _ .vmem, ⟨4, _⟩ => ⟨S1x768, .f32⟩
  | .local _ .vmem, ⟨5, _⟩ => ⟨S1x768, .f32⟩
  | .local _ .vmem, ⟨6, _⟩ => ⟨S384x1, .f32⟩
  | .local _ .vmem, ⟨7, _⟩ => ⟨S384x8192, .fp8e4m3⟩
  | .local _ .vmem, ⟨8, _⟩ => ⟨S384x1, .f32⟩
  | .local _ .vmem, ⟨9, _⟩ => ⟨S384x8192, .fp8e4m3⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | _, _ => ⟨S1x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v191 : BitVec 1 := Scalar.cmpi .eq arg0 c49_i32
  let v192 : BitVec 32 := Scalar.extui v191
  let c0_i32_60 : BitVec 32 := 0#32
  let v193 : BitVec 1 := Scalar.cmpi .ne v192 c0_i32_60
  v193

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x384x8192 : Shape := ⟨3, ![1, 384, 8192]⟩
abbrev S38016x8192 : Shape := ⟨2, ![38016, 8192]⟩
abbrev S38016x1 : Shape := ⟨2, ![38016, 1]⟩
abbrev S1x384 : Shape := ⟨2, ![1, 384]⟩
abbrev S384x1 : Shape := ⟨2, ![384, 1]⟩
abbrev S384x8192 : Shape := ⟨2, ![384, 8192]⟩
abbrev S384 : Shape := ⟨1, ![384]⟩
abbrev S384x38016 : Shape := ⟨2, ![384, 38016]⟩
abbrev S38016 : Shape := ⟨1, ![38016]⟩
abbrev S1x38016 : Shape := ⟨2, ![1, 38016]⟩

abbrev nBuf : Space → Nat
  | .hbm => 7
  | .vmem => 7
  | .smem => 0
  | _ => 0

abbrev bufTy : (tb : Table) → Fin (tcTables nBuf tb) → BufTy
  | .hbm, ⟨0, _⟩ => ⟨S1x384x8192, .bf16⟩
  | .hbm, ⟨1, _⟩ => ⟨S38016x8192, .fp8e4m3⟩
  | .hbm, ⟨2, _⟩ => ⟨S38016x1, .f32⟩
  | .hbm, ⟨3, _⟩ => ⟨S1x384, .i32⟩
  | .hbm, ⟨4, _⟩ => ⟨S384x1, .f32⟩
  | .hbm, ⟨5, _⟩ => ⟨S384x8192, .fp8e4m3⟩
  | .hbm, ⟨6, _⟩ => ⟨S384x1, .f32⟩
  | .local _ .vmem, ⟨0, _⟩ => ⟨S1x384x8192, .bf16⟩
  | .local _ .vmem, ⟨1, _⟩ => ⟨S38016x8192, .fp8e4m3⟩
  | .local _ .vmem, ⟨2, _⟩ => ⟨S38016x1, .f32⟩
  | .local _ .vmem, ⟨3, _⟩ => ⟨S1x384, .i32⟩
  | .local _ .vmem, ⟨4, _⟩ => ⟨S384x1, .f32⟩
  | .local _ .vmem, ⟨5, _⟩ => ⟨S384x8192, .fp8e4m3⟩
  | .local _ .vmem, ⟨6, _⟩ => ⟨S384x1, .f32⟩
  | _, _ => ⟨S1x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S38016x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S38016x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Step.lean ====
/- What one grid point computes, as functions of the buffers it finds. -/
module

public import proofs.«01_k».proof.Proof.Gen.KernelIdeal.Frame
public import proofs.«01_k».proof.Proof.Gen.KernelIdeal.Skeleton
public import Idealize.ShloMosaic.Lib.VecWindow
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The first point: the activations quantised, 128 rows at a time -/

/-- Rows 0 to 127 of the activations. -/
def ch0 (x0 : Vec F S384x8192 .bf16) : Vec F S128x8192 .bf16 := View.ld x0 (Rect.unit ![0, 0] S128x8192.size inb_S384x8192_S128x8192_0_0)
/-- Rows 128 to 255 of the activations. -/
def ch1 (x0 : Vec F S384x8192 .bf16) : Vec F S128x8192 .bf16 := View.ld x0 (Rect.unit ![128, 0] S128x8192.size inb_S384x8192_S128x8192_128_0)
/-- Rows 256 to 383 of the activations. -/
def ch2 (x0 : Vec F S384x8192 .bf16) : Vec F S128x8192 .bf16 := View.ld x0 (Rect.unit ![256, 0] S128x8192.size inb_S384x8192_S128x8192_256_0)

/-- The codes the first point keeps for the product, one piece of 128 rows after the other (last first). -/
def x8L (x0 : Vec F S384x8192 .bf16) : List (View.Piece (Elt F) S384x8192 .fp8e4m3) :=
  [⟨Rect.unit ![256, 0] S128x8192.size inb_S384x8192_S128x8192_256_0, k0_pay27 (k0_pay21 (ch2 x0)) (k0_pay22 (k0_pay21 (ch2 x0))) (k0_pay23)⟩,
   ⟨Rect.unit ![128, 0] S128x8192.size inb_S384x8192_S128x8192_128_0, k0_pay20 (k0_pay15 (ch1 x0)) (k0_pay16 (ch1 x0))⟩,
   ⟨Rect.unit ![0, 0] S128x8192.size inb_S384x8192_S128x8192_0_0, k0_pay14 (k0_pay6 (ch0 x0)) (k0_pay7 (ch0 x0)) (k0_pay8 (ch0 x0)) (k0_pay9 (ch0 x0)) (k0_pay10 (ch0 x0))⟩]

/-- The codes the first point hands out, likewise. -/
def codesL (x0 : Vec F S384x8192 .bf16) : List (View.Piece (Elt F) S384x8192 .fp8e4m3) :=
  [⟨Rect.unit ![256, 0] S128x8192.size inb_S384x8192_S128x8192_256_0, k0_pay26 (k0_pay21 (ch2 x0)) (k0_pay22 (k0_pay21 (ch2 x0))) (k0_pay23)⟩,
   ⟨Rect.unit ![128, 0] S128x8192.size inb_S384x8192_S128x8192_128_0, k0_pay19 (k0_pay15 (ch1 x0)) (k0_pay16 (ch1 x0))⟩,
   ⟨Rect.unit ![0, 0] S128x8192.size inb_S384x8192_S128x8192_0_0, k0_pay13 (k0_pay6 (ch0 x0)) (k0_pay7 (ch0 x0)) (k0_pay8 (ch0 x0)) (k0_pay9 (ch0 x0)) (k0_pay10 (ch0 x0))⟩]

/-- The scales, each repeated along 128 lanes, likewise. -/
def xsL (x0 : Vec F S384x8192 .bf16) : List (View.Piece (Elt F) S384x128 .f32) :=
  [⟨Rect.unit ![256, 0] S128x128.size inb_S384x128_S128x128_256_0, k0_pay25 (F := F) (k0_pay22 (k0_pay21 (ch2 x0))) (k0_pay23)⟩,
   ⟨Rect.unit ![128, 0] S128x128.size inb_S384x128_S128x128_128_0, k0_pay18 (F := F) (k0_pay16 (ch1 x0))⟩,
   ⟨Rect.unit ![0, 0] S128x128.size inb_S384x128_S128x128_0_0, k0_pay12 (k0_pay7 (ch0 x0)) (k0_pay8 (ch0 x0)) (k0_pay9 (ch0 x0)) (k0_pay10 (ch0 x0))⟩]

/-- The codes kept for the product. -/
def x8of (x0 : Vec F S384x8192 .bf16) : Vec F S384x8192 .fp8e4m3 := View.canon (x8L x0)
/-- The codes handed out. -/
def codesOf (x0 : Vec F S384x8192 .bf16) : Vec F S384x8192 .fp8e4m3 := View.canon (codesL x0)
/-- The scales along 128 lanes. -/
def xsOf (x0 : Vec F S384x8192 .bf16) : Vec F S384x128 .f32 := View.canon (xsL x0)
/-- The scales handed out: the first lane. -/
def scaleOf (xs : Vec F S384x128 .f32) : Vec F S384x1 .f32 := View.ld xs (Rect.unit ![0, 0] S384x1.size inb_S384x128_S384x1_0_0)

/-! ## One point: six tiles of 128 columns -/

/-- Columns 0 to 127 of a block of weight scales. -/
def ws0 (x3 : Vec F S1x768 .f32) : Vec F S1x128 .f32 := View.ld x3 (Rect.unit ![0, 0] S1x128.size inb_S1x768_S1x128_0_0)
/-- Columns 128 to 255 of a block of weight scales. -/
def ws1 (x3 : Vec F S1x768 .f32) : Vec F S1x128 .f32 := View.ld x3 (Rect.unit ![0, 128] S1x128.size inb_S1x768_S1x128_0_128)
/-- Columns 256 to 383 of a block of weight scales. -/
def ws2 (x3 : Vec F S1x768 .f32) : Vec F S1x128 .f32 := View.ld x3 (Rect.unit ![0, 256] S1x128.size inb_S1x768_S1x128_0_256)
/-- Columns 384 to 511 of a block of weight scales. -/
def ws3 (x3 : Vec F S1x768 .f32) : Vec F S1x128 .f32 := View.ld x3 (Rect.unit ![0, 384] S1x128.size inb_S1x768_S1x128_0_384)
/-- Columns 512 to 639 of a block of weight scales. -/
def ws4 (x3 : Vec F S1x768 .f32) : Vec F S1x128 .f32 := View.ld x3 (Rect.unit ![0, 512] S1x128.size inb_S1x768_S1x128_0_512)
/-- Columns 640 to 767 of a block of weight scales. -/
def ws5 (x3 : Vec F S1x768 .f32) : Vec F S1x128 .f32 := View.ld x3 (Rect.unit ![0, 640] S1x128.size inb_S1x768_S1x128_0_640)

/-- The lane number. -/
def lane : IVec S384x128 32 := iota .tc S384x128 32 [1] iota_S384x128_d1_w32
/-- The point's number as a word. -/
def gw (i : grid0.Coords) : BitVec 32 := BitVec.ofNat 32 (i 0).val

section Point
variable (i : grid0.Coords) (x8 : Vec F S384x8192 .fp8e4m3) (xs : Vec F S384x128 .f32) (x1 : Vec F S384x1 .i32) (x2 : Vec F S768x8192 .fp8e4m3) (x3 : Vec F S1x768 .f32)

/-- The running maximum after the first two tiles, -/
def m2 (mo : Vec F S384x128 .f32) : FVec F S384x128 .f32 :=
  k0_pay44 (gw i) (k0_pay33 x8 x2) mo xs lane (k0_pay35 x8 x2 xs (ws0 x3)) (k0_pay36 i) (ws1 x3)
/-- after four, -/
def m4 (mo : Vec F S384x128 .f32) : FVec F S384x128 .f32 :=
  k0_pay54 (gw i) (k0_pay33 x8 x2) xs lane (m2 i x8 xs x2 x3 mo) (k0_pay45 (k0_pay33 x8 x2) xs (ws2 x3)) (k0_pay46 (gw i) lane) (ws3 x3)
/-- after all six. -/
def m6 (mo : Vec F S384x128 .f32) : FVec F S384x128 .f32 :=
  k0_pay64 (gw i) (k0_pay33 x8 x2) xs lane (m4 i x8 xs x2 x3 mo) (k0_pay55 (k0_pay33 x8 x2) xs (ws4 x3)) (k0_pay56 (gw i) lane) (ws5 x3)

/-- The running maximum a point leaves. -/
def stM (mo : Vec F S384x128 .f32) : FVec F S384x128 .f32 := k0_pay1 (m6 i x8 xs x2 x3 mo)

/-- The running sum of exponentials a point leaves. -/
def stL (mo lo : Vec F S384x128 .f32) : FVec F S384x128 .f32 :=
  k0_pay2 (k0_pay58 (k0_pay55 (k0_pay33 x8 x2) xs (ws4 x3)) (k0_pay56 (gw i) lane))
    (k0_pay63 (gw i) (k0_pay33 x8 x2) xs lane (ws5 x3))
    (m6 i x8 xs x2 x3 mo)
    (k0_pay65 (gw i) (k0_pay33 x8 x2) mo xs lane (k0_pay39 (k0_pay35 x8 x2 xs (ws0 x3)) (k0_pay36 i)) (k0_pay43 (gw i) (k0_pay33 x8 x2) xs lane (ws1 x3))
      (k0_pay49 (k0_pay45 (k0_pay33 x8 x2) xs (ws2 x3)) (k0_pay46 (gw i) lane)) (m4 i x8 xs x2 x3 mo) (k0_pay55 (k0_pay33 x8 x2) xs (ws4 x3)) (k0_pay56 (gw i) lane) (ws5 x3) lo)
    (k0_pay66 (gw i) (k0_pay33 x8 x2) xs lane (k0_pay53 (gw i) (k0_pay33 x8 x2) xs lane (ws3 x3)) (m4 i x8 xs x2 x3 mo) (k0_pay55 (k0_pay33 x8 x2) xs (ws4 x3)) (k0_pay56 (gw i) lane) (ws5 x3))

/-- The running sum of logits a point leaves. -/
def stT (tq : Vec F S384x128 .f32) : FVec F S384x128 .f32 :=
  k0_pay3 (k0_pay61 (gw i) (k0_pay33 x8 x2) xs lane
    (k0_pay57 (gw i) (k0_pay33 x8 x2) xs lane (k0_pay47 (gw i) (k0_pay33 x8 x2) xs lane (k0_pay37 i x8 x2 xs tq (ws0 x3)) (ws1 x3) (ws2 x3)) (ws3 x3) (ws4 x3))
    (ws5 x3))

/-- The running label logit a point leaves. -/
def stP (po : Vec F S384x128 .f32) : FVec F S384x128 .f32 :=
  k0_pay4 (k0_pay62 (gw i) (k0_pay33 x8 x2) xs (k0_pay34 (F := F) x1) lane
    (k0_pay52 (gw i) (k0_pay33 x8 x2) xs (k0_pay34 (F := F) x1) lane
      (k0_pay42 (gw i) (k0_pay33 x8 x2) xs (k0_pay34 (F := F) x1) lane (k0_pay38 i x8 x2 xs x1 po (ws0 x3)) (ws1 x3))
      (k0_pay45 (k0_pay33 x8 x2) xs (ws2 x3)) (k0_pay48 (gw i) (k0_pay34 (F := F) x1) lane) (ws3 x3))
    (Scalar.addi (Scalar.muli (gw i) 768#32) 512#32)
    (k0_pay55 (k0_pay33 x8 x2) xs (ws4 x3)) (ws5 x3))

end Point

/-- Of a list of stores that cover a buffer, the buffer read back is what the stores alone say. -/
theorem read_cover {sig : RefSig} {κ : Kind} {sp : Space} {s : Shape} {e : EltTy} {Val : EltTy → Type} [∀ e, Nonempty (Val e)] (v : View sig κ sp s e)
    (f : v.ty.Contents Val) (L : List (View.Piece Val s e)) (n : Fin s.rank → ℕ) (h : View.Piece.tiledL L n = true) :
    v.read Val (v.writes Val f L) = View.canon L :=
  View.read_writes_eq_canon v f L (View.cover_of_tiledL L n h)

/-- Read back whole, stores are what they alone say. -/
theorem canon_full {sig : RefSig} {κ : Kind} {sp : Space} {s : Shape} {e : EltTy} {Val : EltTy → Type} [∀ e, Nonempty (Val e)] (v : View sig κ sp s e)
    (L : List (View.Piece Val s e)) {off : Fin s.rank → ℕ} (inb : ∀ a, off a + s.size a ≤ s.size a) :
    v.readCov L (Rect.unit off s.size inb).toLoadRect = View.canon L := by
  rw [View.readCov_eq_canon']; funext y; exact congrArg (View.canon L) (Rect.emb_unit_full inb y)

/-- A load of all of a S384x8192 buffer reads it. -/
theorem ld_S384x8192 {e : EltTy} {Val : EltTy → Type} (X : S384x8192.Idx → Val e) (inb : ∀ a : Fin 2, (![0, 0] : Fin 2 → ℕ) a + (![384, 8192] : Fin 2 → ℕ) a ≤ S384x8192.size a) :
    View.ld (S := S384x8192) (e' := e) X (Rect.unit (s := S384x8192) ![0, 0] ![384, 8192] inb) = X :=
  funext fun y => congrArg X (Rect.emb_unit_full (s := S384x8192) inb y)
/-- A load of all of a S384x8192 buffer that was stored to reads what the stores alone say. -/
theorem cov_S384x8192 {sig : RefSig} {κ : Kind} {sp : Space} {e : EltTy} {Val : EltTy → Type} [∀ e, Nonempty (Val e)] (v : View sig κ sp S384x8192 e) (L : List (View.Piece Val S384x8192 e))
    (inb : ∀ a : Fin 2, (![0, 0] : Fin 2 → ℕ) a + (![384, 8192] : Fin 2 → ℕ) a ≤ S384x8192.size a) :
    v.readCov L (Rect.unit (s := S384x8192) ![0, 0] ![384, 8192] inb).toLoadRect = View.canon L := canon_full v L inb
/-- Stores of which the last fills a S384x8192 buffer leave that one's value. -/
theorem canon_S384x8192 {e : EltTy} {Val : EltTy → Type} [∀ e, Nonempty (Val e)] (inb : ∀ a : Fin 2, (![0, 0] : Fin 2 → ℕ) a + (![384, 8192] : Fin 2 → ℕ) a ≤ S384x8192.size a)
    (x : S384x8192.Idx → Val e) (L : List (View.Piece Val S384x8192 e)) :
    View.canon ((⟨Rect.unit (s := S384x8192) ![0, 0] ![384, 8192] inb, x⟩ : View.Piece Val S384x8192 e) :: L) = x := by
  funext y
  have h := View.canon_cons_emb (Rect.unit (s := S384x8192) ![0, 0] ![384, 8192] inb) x L y
  rwa [Rect.emb_unit_full (s := S384x8192) inb y] at h

/-- A load of all of a S768x8192 buffer reads it. -/
theorem ld_S768x8192 {e : EltTy} {Val : EltTy → Type} (X : S768x8192.Idx → Val e) (inb : ∀ a : Fin 2, (![0, 0] : Fin 2 → ℕ) a + (![768, 8192] : Fin 2 → ℕ) a ≤ S768x8192.size a) :
    View.ld (S := S768x8192) (e' := e) X (Rect.unit (s := S768x8192) ![0, 0] ![768, 8192] inb) = X :=
  funext fun y => congrArg X (Rect.emb_unit_full (s := S768x8192) inb y)
/-- A load of all of a S768x8192 buffer that was stored to reads what the stores alone say. -/
theorem cov_S768x8192 {sig : RefSig} {κ : Kind} {sp : Space} {e : EltTy} {Val : EltTy → Type} [∀ e, Nonempty (Val e)] (v : View sig κ sp S768x8192 e) (L : List (View.Piece Val S768x8192 e))
    (inb : ∀ a : Fin 2, (![0, 0] : Fin 2 → ℕ) a + (![768, 8192] : Fin 2 → ℕ) a ≤ S768x8192.size a) :
    v.readCov L (Rect.unit (s := S768x8192) ![0, 0] ![768, 8192] inb).toLoadRect = View.canon L := canon_full v L inb
/-- Stores of which the last fills a S768x8192 buffer leave that one's value. -/
theorem canon_S768x8192 {e : EltTy} {Val : EltTy → Type} [∀ e, Nonempty (Val e)] (inb : ∀ a : Fin 2, (![0, 0] : Fin 2 → ℕ) a + (![768, 8192] : Fin 2 → ℕ) a ≤ S768x8192.size a)
    (x : S768x8192.Idx → Val e) (L : List (View.Piece Val S768x8192 e)) :
    View.canon ((⟨Rect.unit (s := S768x8192) ![0, 0] ![768, 8192] inb, x⟩ : View.Piece Val S768x8192 e) :: L) = x := by
  funext y
  have h := View.canon_cons_emb (Rect.unit (s := S768x8192) ![0, 0] ![768, 8192] inb) x L y
  rwa [Rect.emb_unit_full (s := S768x8192) inb y] at h

/-- A load of all of a S384x128 buffer reads it. -/
theorem ld_S384x128 {e : EltTy} {Val : EltTy → Type} (X : S384x128.Idx → Val e) (inb : ∀ a : Fin 2, (![0, 0] : Fin 2 → ℕ) a + (![384, 128] : Fin 2 → ℕ) a ≤ S384x128.size a) :
    View.ld (S := S384x128) (e' := e) X (Rect.unit (s := S384x128) ![0, 0] ![384, 128] inb) = X :=
  funext fun y => congrArg X (Rect.emb_unit_full (s := S384x128) inb y)
/-- A load of all of a S384x128 buffer that was stored to reads what the stores alone say. -/
theorem cov_S384x128 {sig : RefSig} {κ : Kind} {sp : Space} {e : EltTy} {Val : EltTy → Type} [∀ e, Nonempty (Val e)] (v : View sig κ sp S384x128 e) (L : List (View.Piece Val S384x128 e))
    (inb : ∀ a : Fin 2, (![0, 0] : Fin 2 → ℕ) a + (![384, 128] : Fin 2 → ℕ) a ≤ S384x128.size a) :
    v.readCov L (Rect.unit (s := S384x128) ![0, 0] ![384, 128] inb).toLoadRect = View.canon L := canon_full v L inb
/-- Stores of which the last fills a S384x128 buffer leave that one's value. -/
theorem canon_S384x128 {e : EltTy} {Val : EltTy → Type} [∀ e, Nonempty (Val e)] (inb : ∀ a : Fin 2, (![0, 0] : Fin 2 → ℕ) a + (![384, 128] : Fin 2 → ℕ) a ≤ S384x128.size a)
    (x : S384x128.Idx → Val e) (L : List (View.Piece Val S384x128 e)) :
    View.canon ((⟨Rect.unit (s := S384x128) ![0, 0] ![384, 128] inb, x⟩ : View.Piece Val S384x128 e) :: L) = x := by
  funext y
  have h := View.canon_cons_emb (Rect.unit (s := S384x128) ![0, 0] ![384, 128] inb) x L y
  rwa [Rect.emb_unit_full (s := S384x128) inb y] at h

/-- A load of all of a S384x1 buffer reads it. -/
theorem ld_S384x1 {e : EltTy} {Val : EltTy → Type} (X : S384x1.Idx → Val e) (inb : ∀ a : Fin 2, (![0, 0] : Fin 2 → ℕ) a + (![384, 1] : Fin 2 → ℕ) a ≤ S384x1.size a) :
    View.ld (S := S384x1) (e' := e) X (Rect.unit (s := S384x1) ![0, 0] ![384, 1] inb) = X :=
  funext fun y => congrArg X (Rect.emb_unit_full (s := S384x1) inb y)
/-- A load of all of a S384x1 buffer that was stored to reads what the stores alone say. -/
theorem cov_S384x1 {sig : RefSig} {κ : Kind} {sp : Space} {e : EltTy} {Val : EltTy → Type} [∀ e, Nonempty (Val e)] (v : View sig κ sp S384x1 e) (L : List (View.Piece Val S384x1 e))
    (inb : ∀ a : Fin 2, (![0, 0] : Fin 2 → ℕ) a + (![384, 1] : Fin 2 → ℕ) a ≤ S384x1.size a) :
    v.readCov L (Rect.unit (s := S384x1) ![0, 0] ![384, 1] inb).toLoadRect = View.canon L := canon_full v L inb
/-- Stores of which the last fills a S384x1 buffer leave that one's value. -/
theorem canon_S384x1 {e : EltTy} {Val : EltTy → Type} [∀ e, Nonempty (Val e)] (inb : ∀ a : Fin 2, (![0, 0] : Fin 2 → ℕ) a + (![384, 1] : Fin 2 → ℕ) a ≤ S384x1.size a)
    (x : S384x1.Idx → Val e) (L : List (View.Piece Val S384x1 e)) :
    View.canon ((⟨Rect.unit (s := S384x1) ![0, 0] ![384, 1] inb, x⟩ : View.Piece Val S384x1 e) :: L) = x := by
  funext y
  have h := View.canon_cons_emb (Rect.unit (s := S384x1) ![0, 0] ![384, 1] inb) x L y
  rwa [Rect.emb_unit_full (s := S384x1) inb y] at h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, k0_cond1, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

end Cert.KernelIdeal.Gen

end
-- ==== Proof.RunA.lean ====
/- The body at the first point. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The first point: the activations are quantised, the running values start, and move one step. -/
theorem runA (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : cond0_0 i) (hc1 : ¬cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (y4) ∗ owns (c : Thread nD τ) arg6 fullShare (codesOf x0) ∗ owns (c : Thread nD τ) arg7 fullShare (y6) ∗ owns (c : Thread nD τ) arg8 fullShare (x8of x0) ∗ owns (c : Thread nD τ) arg9 fullShare (xsOf x0) ∗ owns (c : Thread nD τ) arg10 fullShare (stM i (x8of x0) (xsOf x0) x2 x3 (k0_pay29 (k0_pay28 (F := F)))) ∗ owns (c : Thread nD τ) arg11 fullShare (stL i (x8of x0) (xsOf x0) x2 x3 (k0_pay29 (k0_pay28 (F := F))) (k0_pay30 (F := F))) ∗ owns (c : Thread nD τ) arg12 fullShare (stT i (x8of x0) (xsOf x0) x2 x3 (k0_pay31 (F := F))) ∗ owns (c : Thread nD τ) arg13 fullShare (stP i (x8of x0) (xsOf x0) x1 x2 x3 (k0_pay32 (F := F)))) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; have h := read_cover (Val := Elt F) arg6.view (harg6.unread y5) (codesL x0) S128x8192.size (by sl_kernel_rfl); delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7; simp only [View.readAt_eq_ld, Memref.IsWhole.read_unread]; exact h
  isplitl [H7]
  · iexists _; isplitr; swap; · iexact H7
    ipureintro; exact harg7.read_unread _
  isplitl [H8]
  · iexists _; isplitr; swap; · iexact H8
    ipureintro; have h := read_cover (Val := Elt F) arg8.view (harg8.unread x8) (x8L x0) S128x8192.size (by sl_kernel_rfl); delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7; simp only [View.readAt_eq_ld, Memref.IsWhole.read_unread]; exact h
  isplitl [H9]
  · iexists _; isplitr; swap; · iexact H9
    ipureintro; have h := read_cover (Val := Elt F) arg9.view (harg9.unread xs) (xsL x0) S128x128.size (by sl_kernel_rfl); delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7; simp only [View.readAt_eq_ld, Memref.IsWhole.read_unread]; exact h
  isplitl [H10]
  · iexists _; isplitr; swap; · iexact H10
    ipureintro; (try delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H11]
  · iexists _; isplitr; swap; · iexact H11
    ipureintro; (try delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H12]
  · iexists _; isplitr; swap; · iexact H12
    ipureintro; (try delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  iexists _; isplitr; swap; · iexact H13
  ipureintro; (try delta runA.sl.H10_1 runA.sl.H11_1 runA.sl.H12_1 runA.sl.H13_1 runA.sl.H8_3 runA.sl.H9_3 runA.sl.cst_63 runA.sl.cst_64 runA.sl.cst_73 runA.sl.cst_74 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_3 runA.sl.r_4 runA.sl.r_5 runA.sl.r_6 runA.sl.r_7 runA.sl.r_8 runA.sl.r_9 runA.sl.v10 runA.sl.v109 runA.sl.v11 runA.sl.v110 runA.sl.v12 runA.sl.v157 runA.sl.v195 runA.sl.v196 runA.sl.v197 runA.sl.v198 runA.sl.v199 runA.sl.v200 runA.sl.v201 runA.sl.v202 runA.sl.v203 runA.sl.v205 runA.sl.v206 runA.sl.v207 runA.sl.v208 runA.sl.v209 runA.sl.v210 runA.sl.v211 runA.sl.v212 runA.sl.v213 runA.sl.v214 runA.sl.v215 runA.sl.v216 runA.sl.v217 runA.sl.v218 runA.sl.v219 runA.sl.v220 runA.sl.v221 runA.sl.v222 runA.sl.v223 runA.sl.v224 runA.sl.v225 runA.sl.v226 runA.sl.v227 runA.sl.v228 runA.sl.v229 runA.sl.v230 runA.sl.v231 runA.sl.v232 runA.sl.v233 runA.sl.v234 runA.sl.v235 runA.sl.v236 runA.sl.v237 runA.sl.v238 runA.sl.v239 runA.sl.v240 runA.sl.v241 runA.sl.v242 runA.sl.v244 runA.sl.v245 runA.sl.v246 runA.sl.v247 runA.sl.v248 runA.sl.v250 runA.sl.v251 runA.sl.v252 runA.sl.v254 runA.sl.v255 runA.sl.v257 runA.sl.v259 runA.sl.v260 runA.sl.v261 runA.sl.v262 runA.sl.v264 runA.sl.v265 runA.sl.v266 runA.sl.v267 runA.sl.v268 runA.sl.v269 runA.sl.v270 runA.sl.v271 runA.sl.v272 runA.sl.v273 runA.sl.v274 runA.sl.v275 runA.sl.v277 runA.sl.v278 runA.sl.v281 runA.sl.v282 runA.sl.v283 runA.sl.v284 runA.sl.v285 runA.sl.v287 runA.sl.v292 runA.sl.v293 runA.sl.v295 runA.sl.v296 runA.sl.v297 runA.sl.v298 runA.sl.v3 runA.sl.v300 runA.sl.v301 runA.sl.v302 runA.sl.v303 runA.sl.v305 runA.sl.v306 runA.sl.v307 runA.sl.v308 runA.sl.v310 runA.sl.v311 runA.sl.v312 runA.sl.v313 runA.sl.v315 runA.sl.v316 runA.sl.v317 runA.sl.v318 runA.sl.v320 runA.sl.v321 runA.sl.v322 runA.sl.v323 runA.sl.v325 runA.sl.v326 runA.sl.v327 runA.sl.v328 runA.sl.v330 runA.sl.v332 runA.sl.v334 runA.sl.v336 runA.sl.v338 runA.sl.v340 runA.sl.v341 runA.sl.v343 runA.sl.v345 runA.sl.v346 runA.sl.v347 runA.sl.v348 runA.sl.v349 runA.sl.v350 runA.sl.v351 runA.sl.v352 runA.sl.v353 runA.sl.v354 runA.sl.v357 runA.sl.v360 runA.sl.v361 runA.sl.v362 runA.sl.v363 runA.sl.v364 runA.sl.v367 runA.sl.v368 runA.sl.v369 runA.sl.v370 runA.sl.v371 runA.sl.v373 runA.sl.v378 runA.sl.v379 runA.sl.v381 runA.sl.v382 runA.sl.v383 runA.sl.v384 runA.sl.v386 runA.sl.v387 runA.sl.v388 runA.sl.v389 runA.sl.v391 runA.sl.v392 runA.sl.v393 runA.sl.v394 runA.sl.v396 runA.sl.v397 runA.sl.v398 runA.sl.v399 runA.sl.v401 runA.sl.v402 runA.sl.v403 runA.sl.v404 runA.sl.v406 runA.sl.v407 runA.sl.v408 runA.sl.v409 runA.sl.v411 runA.sl.v412 runA.sl.v413 runA.sl.v414 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)

end Cert.KernelIdeal.Gen

end
-- ==== Proof.RunB.lean ====
/- The body at a point that is neither the first nor the last. -/
module

public import proofs.«01_k».proof.Proof.Step
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A middle point: the four running values move one step, everything else stays. -/
theorem runB (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : ¬cond0_0 i) (hc1 : ¬cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (y4) ∗ owns (c : Thread nD τ) arg6 fullShare (y5) ∗ owns (c : Thread nD τ) arg7 fullShare (y6) ∗ owns (c : Thread nD τ) arg8 fullShare (x8) ∗ owns (c : Thread nD τ) arg9 fullShare (xs) ∗ owns (c : Thread nD τ) arg10 fullShare (stM i x8 xs x2 x3 mo) ∗ owns (c : Thread nD τ) arg11 fullShare (stL i x8 xs x2 x3 mo lo) ∗ owns (c : Thread nD τ) arg12 fullShare (stT i x8 xs x2 x3 tq) ∗ owns (c : Thread nD τ) arg13 fullShare (stP i x8 xs x1 x2 x3 po)) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  isplitl [H11]
  · iexists _; isplitr; swap; · iexact H11
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  isplitl [H12]
  · iexists _; isplitr; swap; · iexact H12
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  iexists _; isplitr; swap; · iexact H13
  ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)

end Cert.KernelIdeal.Gen

end
-- ==== Proof.RunC.lean ====
/- The body at the last point. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The last point: the running values move one step, then the loss and the scales are handed out. -/
theorem runC (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : ¬cond0_0 i) (hc1 : cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (k0_pay5 (stM i x8 xs x2 x3 mo) (stL i x8 xs x2 x3 mo lo) (stM i x8 xs x2 x3 mo) (stT i x8 xs x2 x3 tq) (stP i x8 xs x1 x2 x3 po)) ∗ owns (c : Thread nD τ) arg6 fullShare (y5) ∗ owns (c : Thread nD τ) arg7 fullShare (scaleOf xs) ∗ owns (c : Thread nD τ) arg8 fullShare (x8) ∗ owns (c : Thread nD τ) arg9 fullShare (xs) ∗ owns (c : Thread nD τ) arg10 fullShare (stM i x8 xs x2 x3 mo) ∗ owns (c : Thread nD τ) arg11 fullShare (stL i x8 xs x2 x3 mo lo) ∗ owns (c : Thread nD τ) arg12 fullShare (stT i x8 xs x2 x3 tq) ∗ owns (c : Thread nD τ) arg13 fullShare (stP i x8 xs x1 x2 x3 po)) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H6]
  · iexists _; isplitr; swap; · iexact H6
    ipureintro; exact harg6.read_unread _
  isplitl [H7]
  · iexists _; isplitr; swap; · iexact H7
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H11]
  · iexists _; isplitr; swap; · iexact H11
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H12]
  · iexists _; isplitr; swap; · iexact H12
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  iexists _; isplitr; swap; · iexact H13
  ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)

end Cert.KernelIdeal.Gen

end
-- ==== Proof.Run.lean ====
/- The run of the kernel: what every buffer may hold after it. -/
module

public import proofs.«01_k».proof.Proof.RunA
public import proofs.«01_k».proof.Proof.RunB
public import proofs.«01_k».proof.Proof.RunC
public import Idealize.ShloMosaic.Lib.Pipeline.ArrRel
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the running values may be after each point -/

/-- The running maximum, sum of exponentials, sum of logits and label logit. -/
structure St (F : FTy → Type) where
  mx : Vec F S384x128 .f32
  l : Vec F S384x128 .f32
  s : Vec F S384x128 .f32
  p : Vec F S384x128 .f32

/-- The first grid point. -/
abbrev pt0 : Fin cfg0.N := ⟨0, lt_of_lt_of_eq (by decide) (show 50 = cfg0.N from N_0.symm)⟩
/-- The activations, as the kernel reads them. -/
def xIn (c : Dev nD) : Vec F S384x8192 .bf16 := iblk m c 0 pt0
/-- The labels, as the kernel reads them. -/
def labIn (c : Dev nD) : Vec F S384x1 .i32 := iblk m c 1 pt0
/-- The weights a point reads: the array's block where it lies inside the array, anything (`d`) outside. -/
def wIn (c : Dev nD) (t : Fin cfg0.N) (d : Vec F S768x8192 .fp8e4m3) : Vec F S768x8192 .fp8e4m3 := (cfg0.win 2).fill (cfg0.grid.coords t) d (iblk m c 2 t)
/-- The weight scales a point reads, likewise. -/
def wsIn (c : Dev nD) (t : Fin cfg0.N) (d : Vec F S1x768 .f32) : Vec F S1x768 .f32 := (cfg0.win 3).fill (cfg0.grid.coords t) d (iblk m c 3 t)

/-- The running values before the first point. -/
def stInit : St F := ⟨k0_pay29 (k0_pay28 (F := F)), k0_pay30, k0_pay31, k0_pay32⟩
/-- One point's step, on the weights and scales it read. -/
def stStep (i : grid0.Coords) (x8 : Vec F S384x8192 .fp8e4m3) (xs : Vec F S384x128 .f32) (x1 : Vec F S384x1 .i32) (x2 : Vec F S768x8192 .fp8e4m3) (x3 : Vec F S1x768 .f32) (s : St F) : St F :=
  ⟨stM i x8 xs x2 x3 s.mx, stL i x8 xs x2 x3 s.mx s.l, stT i x8 xs x2 x3 s.s, stP i x8 xs x1 x2 x3 s.p⟩
/-- The loss the last point makes of the running values. -/
def lossOf (s : St F) : Vec F S384x1 .f32 := k0_pay5 s.mx s.l s.mx s.s s.p

/-- The running values after `n` points, for some contents of the blocks outside the arrays. -/
def Reach (c : Dev nD) : ℕ → St F → Prop
  | 0, s => s = stInit
  | n + 1, s => ∃ (h : n < cfg0.N) (d2 : Vec F S768x8192 .fp8e4m3) (d3 : Vec F S1x768 .f32) (s' : St F), Reach c n s' ∧
      s = stStep (grid0.coords ⟨n, h⟩) (x8of (xIn m c)) (xsOf (xIn m c)) (labIn m c) (wIn m c ⟨n, h⟩ d2) (wsIn m c ⟨n, h⟩ d3) s'

theorem Reach_step (c : Dev nD) (t : Fin cfg0.N) (n : ℕ) (hn : t.val = n) (d2 : Vec F S768x8192 .fp8e4m3) (d3 : Vec F S1x768 .f32) (s' : St F) (h : Reach m c n s') :
    Reach m c (n + 1) (stStep (grid0.coords t) (x8of (xIn m c)) (xsOf (xIn m c)) (labIn m c) (wIn m c t d2) (wsIn m c t d3) s') := by
  subst hn; exact ⟨t.isLt, d2, d3, s', h, rfl⟩

/-! ## The proof data -/

/-- The kernel's own buffers, at given contents. -/
def held (c : Dev nD) (x8 : Vec F S384x8192 .fp8e4m3) (xs : Vec F S384x128 .f32) (s : St F) : sProp 𝕄 :=
  iprop(iprop(owns (c : Thread nD τ) (Memref.whole cc0_scratch0) fullShare x8 ∗ owns (c : Thread nD τ) (Memref.whole cc0_scratch1) fullShare xs ∗ owns (c : Thread nD τ) (Memref.whole cc0_scratch2) fullShare s.mx ∗ owns (c : Thread nD τ) (Memref.whole cc0_scratch3) fullShare s.l ∗ owns (c : Thread nD τ) (Memref.whole cc0_scratch4) fullShare s.s ∗ owns (c : Thread nD τ) (Memref.whole cc0_scratch5) fullShare s.p) ∗ (∃ r, prngReg c r))

/-- The invariant before point `n`: at the start anything, afterwards the codes and scales of the activations and running values that `n` points may leave. -/
def PhiS (c : Dev nD) : ℕ → sProp 𝕄
  | 0 => Pipeline.ΦA spec0 c
  | n + 1 => iprop(∃ s, ⌜Reach m c (n + 1) s⌝ ∗ held c (x8of (xIn m c)) (xsOf (xIn m c)) s)

theorem PhiS_pos (c : Dev nD) (n : ℕ) (h : n ≠ 0) : PhiS m c n = iprop(∃ s, ⌜Reach m c n s⌝ ∗ held c (x8of (xIn m c)) (xsOf (xIn m c)) s) := by
  cases n with
  | zero => exact absurd rfl h
  | succ n => rfl

/-- The kernel's own buffers at anything. -/
theorem PhiA0_eq (c : Dev nD) :
    (Pipeline.ΦA spec0 c : sProp 𝕄)
      = iprop(iprop((∃ d, owns (c : Thread nD τ) (Memref.whole cc0_scratch0 : Memref sig .tc .vmem S384x8192 .fp8e4m3) fullShare d) ∗ (∃ d, owns (c : Thread nD τ) (Memref.whole cc0_scratch1 : Memref sig .tc .vmem S384x128 .f32) fullShare d) ∗ (∃ d, owns (c : Thread nD τ) (Memref.whole cc0_scratch2 : Memref sig .tc .vmem S384x128 .f32) fullShare d) ∗ (∃ d, owns (c : Thread nD τ) (Memref.whole cc0_scratch3 : Memref sig .tc .vmem S384x128 .f32) fullShare d) ∗ (∃ d, owns (c : Thread nD τ) (Memref.whole cc0_scratch4 : Memref sig .tc .vmem S384x128 .f32) fullShare d) ∗ (∃ d, owns (c : Thread nD τ) (Memref.whole cc0_scratch5 : Memref sig .tc .vmem S384x128 .f32) fullShare d)) ∗ (∃ r, prngReg c r)) := by
  unfold Pipeline.ΦA; rw [scopedRest0_eq]; simp only [owns_whole]; try rfl

/-- What the body may leave in each window's buffer: the inputs as found; the codes from the first point on; the loss and the scales at the last point. -/
def aft (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, _, X => t.val = 49 → ∃ s, Reach m c 50 s ∧ X = lossOf s
  | ⟨5, _⟩, _, X => X = codesOf (xIn m c)
  | ⟨6, _⟩, _, X => t.val = 49 → X = scaleOf (xsOf (xIn m c))

/-- The proof data of the pipeline on core `c`. -/
def rdat (c : Dev nD) : RDat τ (Elt F) Unit ℕ (UR sig nD τ) ℕ cfg0 c where
  A w := V m c (Pipeline.arrRef spec0 w)
  after w t Y X := aft m c w t Y X
  Φ t := PhiS m c t.val
  q _ := fullShare
  owed _ := 0

theorem rA_eq (c : Dev nD) (w : Fin cfg0.W) : (rdat m c).A w = V m c (Pipeline.arrRef spec0 w) := by dsimp only [rdat]
theorem rafter_eq (c : Dev nD) (w : Fin cfg0.W) (t : Fin cfg0.N) (Y X) : (rdat m c).after w t Y X = aft m c w t Y X := by dsimp only [rdat]

/-- The activations' buffer holds them at every point. -/
theorem finds0 (c : Dev nD) (t : Fin cfg0.N) (Y) (h : (rdat m c).Finds 0 t Y) : Y = xIn m c := by
  obtain ⟨d, hd⟩ := (rdat m c).finds_in_eq_fetched 0 rfl (fun _ _ _ => rfl) (fun t Y X h => by rw [rafter_eq] at h; exact h) t Y h
  rw [hd, (rdat m c).fetched_congr 0 (t := t) (t' := pt0) rfl rfl]
  unfold RDat.fetched RDat.blockOf xIn iblk; rw [rA_eq]; try rfl
/-- The labels' buffer holds them at every point. -/
theorem finds1 (c : Dev nD) (t : Fin cfg0.N) (Y) (h : (rdat m c).Finds 1 t Y) : Y = labIn m c := by
  obtain ⟨d, hd⟩ := (rdat m c).finds_in_eq_fetched 1 rfl (fun _ _ _ => rfl) (fun t Y X h => by rw [rafter_eq] at h; exact h) t Y h
  rw [hd, (rdat m c).fetched_congr 1 (t := t) (t' := pt0) rfl rfl]
  unfold RDat.fetched RDat.blockOf labIn iblk; rw [rA_eq]; try rfl
/-- The weights' buffer holds the point's block. -/
theorem finds2 (c : Dev nD) (t : Fin cfg0.N) (Y) (h : (rdat m c).Finds 2 t Y) : ∃ d, Y = wIn m c t d := by
  obtain ⟨d, hd⟩ := ((rdat m c).finds_of_fetch (fetch0_2 t) Y).mp h
  refine ⟨d, hd.trans ?_⟩
  unfold RDat.fetched RDat.blockOf wIn iblk; rw [rA_eq]
/-- The weight scales' buffer holds the point's block. -/
theorem finds3 (c : Dev nD) (t : Fin cfg0.N) (Y) (h : (rdat m c).Finds 3 t Y) : ∃ d, Y = wsIn m c t d := by
  obtain ⟨d, hd⟩ := ((rdat m c).finds_of_fetch (fetch0_3 t) Y).mp h
  refine ⟨d, hd.trans ?_⟩
  unfold RDat.fetched RDat.blockOf wsIn iblk; rw [rA_eq]
/-- The codes' buffer holds the codes after the first point. -/
theorem finds5 (c : Dev nD) (t : Fin cfg0.N) (ht : t.val ≠ 0) (Y) (h : (rdat m c).Finds 5 t Y) : Y = codesOf (xIn m c) := by
  rcases ((rdat m c).finds_of_pos rfl ht Y).mp h with h | ⟨_, _, h⟩
  · exfalso; have := (flush0_5 _).mp h; have hN : t.val < 50 := lt_of_lt_of_eq t.isLt (show cfg0.N = 50 from N_0); dsimp only at this; omega
  · rw [rafter_eq] at h; exact h

/-! ## The body, at a generic point -/

/-- What the body finds at point `t`, the windows one by one. -/
def bodyPre (c : Dev nD) (t : Fin cfg0.N) (y4 : Vec F S384x1 .f32) (y5 : Vec F S384x8192 .fp8e4m3) (y6 : Vec F S384x1 .f32) (d2 : Vec F S768x8192 .fp8e4m3) (d3 : Vec F S1x768 .f32) : sProp 𝕄 :=
  iprop(PhiS m c t.val ∗ (rdat m c).owesAt () t.castSucc
    ∗ owns (c : Thread nD τ) (win0_0.stage (cfg0.slots t 0)) fullShare (xIn m c)
    ∗ owns (c : Thread nD τ) (win0_1.stage (cfg0.slots t 1)) fullShare (labIn m c)
    ∗ owns (c : Thread nD τ) (win0_2.stage (cfg0.slots t 2)) fullShare (wIn m c t d2)
    ∗ owns (c : Thread nD τ) (win0_3.stage (cfg0.slots t 3)) fullShare (wsIn m c t d3)
    ∗ owns (c : Thread nD τ) (win0_4.stage (cfg0.slots t 4)) fullShare y4
    ∗ owns (c : Thread nD τ) (win0_5.stage (cfg0.slots t 5)) fullShare y5
    ∗ owns (c : Thread nD τ) (win0_6.stage (cfg0.slots t 6)) fullShare y6)

/-- What it leaves. -/
def bodyPost (c : Dev nD) (t : Fin cfg0.N) (d2 : Vec F S768x8192 .fp8e4m3) (d3 : Vec F S1x768 .f32) : sProp 𝕄 :=
  iprop(PhiS m c (t.val + 1) ∗ (rdat m c).owesAt () t.castSucc
    ∗ owns (c : Thread nD τ) (win0_0.stage (cfg0.slots t 0)) fullShare (xIn m c)
    ∗ owns (c : Thread nD τ) (win0_1.stage (cfg0.slots t 1)) fullShare (labIn m c)
    ∗ owns (c : Thread nD τ) (win0_2.stage (cfg0.slots t 2)) fullShare (wIn m c t d2)
    ∗ owns (c : Thread nD τ) (win0_3.stage (cfg0.slots t 3)) fullShare (wsIn m c t d3)
    ∗ (∃ X, ⌜t.val = 49 → ∃ s, Reach m c 50 s ∧ X = lossOf s⌝ ∗ owns (c : Thread nD τ) (win0_4.stage (cfg0.slots t 4)) fullShare X)
    ∗ (∃ X, ⌜X = codesOf (xIn m c)⌝ ∗ owns (c : Thread nD τ) (win0_5.stage (cfg0.slots t 5)) fullShare X)
    ∗ (∃ X, ⌜t.val = 49 → X = scaleOf (xsOf (xIn m c))⌝ ∗ owns (c : Thread nD τ) (win0_6.stage (cfg0.slots t 6)) fullShare X))

set_option maxHeartbeats 3200000 in
/-- The body at any point. -/
theorem sound_body (c : Dev nD) (t : Fin cfg0.N) (y4 : Vec F S384x1 .f32) (y5 : Vec F S384x8192 .fp8e4m3) (y6 : Vec F S384x1 .f32) (d2 : Vec F S768x8192 .fp8e4m3) (d3 : Vec F S1x768 .f32)
    (h5 : t.val ≠ 0 → y5 = codesOf (xIn m c)) :
    bodyPre m c t y4 y5 y6 d2 d3 ⊢ wp frame (wpE (defs₀ (F := F)) Variants.none c none) Set.univ (bodyAt0 t) (fun _ => bodyPost m c t d2 d3) := by
  unfold bodyPre bodyPost bodyAt0
  have hN : t.val < 50 := lt_of_lt_of_eq t.isLt (show cfg0.N = 50 from N_0)
  rw [PhiS_pos m c (t.val + 1) (Nat.succ_ne_zero _)]; unfold held
  by_cases h0 : t.val = 0
  · rw [show PhiS m c t.val = Pipeline.ΦA spec0 c from by rw [h0]; rfl, PhiA0_eq]
    iintro ⟨⟨⟨⟨%e0, S0⟩, ⟨%e1, S1⟩, ⟨%e2, S2⟩, ⟨%e3, S3⟩, ⟨%e4, S4⟩, ⟨%e5, S5⟩⟩, Hg⟩, Ho, H0, H1, H2, H3, H4, H5, H6⟩
    iapply (runA c (grid0.coords t) _ _ _ _ _ _ _ _ _ _ _ _ _ _ _ _ _ _ _ _ _ _ _ _ _ _ ((hcond0_0 t).mpr (by omega)) (fun h => by have := (hcond0_1 t).mp h; omega) _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, S0, S1, S2, S3, S4, S5⟩
    isplitl [S0 S1 S2 S3 S4 S5 Hg]
    · iexists (stStep (grid0.coords t) (x8of (xIn m c)) (xsOf (xIn m c)) (labIn m c) (wIn m c t d2) (wsIn m c t d3) stInit)
      isplitr
      · ipureintro; rw [h0]; exact Reach_step m c t _ h0 d2 d3 stInit (show Reach m c 0 stInit from rfl)
      isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; intro h; omega
    isplitl [H5]
    · iexists _; isplitr; swap; · iexact H5
      ipureintro; rfl
    iexists _; isplitr; swap; · iexact H6
    ipureintro; intro h; omega
  · by_cases h1 : t.val = 49
    · rw [PhiS_pos m c t.val h0]; unfold held
      iintro ⟨⟨%s, %hs, ⟨⟨S0, S1, S2, S3, S4, S5⟩, Hg⟩⟩, Ho, H0, H1, H2, H3, H4, H5, H6⟩
      iapply (runC c (grid0.coords t) _ _ _ _ _ _ _ _ _ _ _ _ _ _ _ _ _ _ _ _ _ _ _ _ _ _ (fun h => by have := (hcond0_0 t).mp h; omega) ((hcond0_1 t).mpr (by omega)) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · iexists (stStep (grid0.coords t) (x8of (xIn m c)) (xsOf (xIn m c)) (labIn m c) (wIn m c t d2) (wsIn m c t d3) s)
        isplitr
        · ipureintro; exact Reach_step m c t _ rfl d2 d3 s hs
        isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro; intro _; have h := Reach_step m c t _ rfl d2 d3 s hs; have e : t.val + 1 = 50 := by omega
        rw [e] at h; exact ⟨_, h, rfl⟩
      isplitl [H5]
      · iexists _; isplitr; swap; · iexact H5
        ipureintro; exact h5 h0
      iexists _; isplitr; swap; · iexact H6
      ipureintro; intro _; rfl
    · rw [PhiS_pos m c t.val h0]; unfold held
      iintro ⟨⟨%s, %hs, ⟨⟨S0, S1, S2, S3, S4, S5⟩, Hg⟩⟩, Ho, H0, H1, H2, H3, H4, H5, H6⟩
      iapply (runB c (grid0.coords t) _ _ _ _ _ _ _ _ _ _ _ _ _ _ _ _ _ _ _ _ _ _ _ _ _ _ (fun h => by have := (hcond0_0 t).mp h; omega) (fun h => by have := (hcond0_1 t).mp h; omega) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · iexists (stStep (grid0.coords t) (x8of (xIn m c)) (xsOf (xIn m c)) (labIn m c) (wIn m c t d2) (wsIn m c t d3) s)
        isplitr
        · ipureintro; exact Reach_step m c t _ rfl d2 d3 s hs
        isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro; intro h; omega
      isplitl [H5]
      · iexists _; isplitr; swap; · iexact H5
        ipureintro; exact h5 h0
      iexists _; isplitr; swap; · iexact H6
      ipureintro; intro h; omega

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation of the pipeline's proof data. -/
theorem body_obligation (c : Dev nD) : (rdat (F := F) m c).BodyObligation (defs₀ (F := F)) Variants.none () Set.univ := fun t Y hY => by
  obtain ⟨d2, h2⟩ := finds2 m c t _ (hY 2)
  obtain ⟨d3, h3⟩ := finds3 m c t _ (hY 3)
  have h0 := finds0 m c t _ (hY 0)
  have h1 := finds1 m c t _ (hY 1)
  rw [bigSep_W0, bigSep_W0, defs₀_row]
  refine triple_restated (sound_body m c t (Y 4) (Y 5) (Y 6) d2 d3 (fun ht => finds5 m c t ht _ (hY 5))) rfl ?_ fun _ => ?_
  · rw [h0, h1, h2, h3]; exact .rfl
  · unfold bodyPost; rw [show (rdat m c).Φ t.succ = PhiS m c (t.val + 1) from rfl]
    iintro ⟨HΦ, Ho, H0, H1, H2, H3, H4, H5, H6⟩
    isplitl [HΦ]; · iexact HΦ
    isplitl [Ho]; · iexact Ho
    isplitl [H0]; · iexists _; isplitr; swap; (· iexact H0); ipureintro; exact h0.symm
    isplitl [H1]; · iexists _; isplitr; swap; (· iexact H1); ipureintro; exact h1.symm
    isplitl [H2]; · iexists _; isplitr; swap; (· iexact H2); ipureintro; exact h2.symm
    isplitl [H3]; · iexists _; isplitr; swap; (· iexact H3); ipureintro; exact h3.symm
    isplitl [H4]; · iexact H4
    isplitl [H5]; · iexact H5
    iexact H6

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = PhiS m c cfg0.N from rfl, PhiS_pos m c _ (by have : cfg0.N = 50 := N_0; omega), PhiA0_eq]; unfold held
  iintro ⟨%s, -, ⟨⟨S0, S1, S2, S3, S4, S5⟩, Hg⟩⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

/-! ## The run -/

set_option backward.isDefEq.respectTransparency.types false in
/-- Every execution ends, every array holds something the proof data allow, everything else is as it was, and every semaphore is at zero. -/
theorem run_rel : θ_run defs (onTc (τ := τ) (main (F := F))) (s₀ m ρ) (fun r => RDat.FramePost (cfgs 0) (fun c => rdat m c) (V m) r ∧ r.2.sem = fun _ => 0) :=
  RDat.θ_run_frame_track cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := rA_eq m) (hin := hin m) (hout := hout m)
    (Q' := _) (hQ' := fun _ h => h)

/-- Every execution ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans ((rA_eq m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_rel m ρ)

end Cert.KernelIdeal.Gen

end
-- ==== Proof.KStep.lean ====
/- What one grid point computes, as functions of the buffers it finds. -/
module

public import proofs.«01_k».proof.Proof.Gen.Kernel.Frame
public import proofs.«01_k».proof.Proof.Gen.Kernel.Skeleton
public import Idealize.ShloMosaic.Lib.VecWindow
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The first point: the activations quantised, 128 rows at a time -/

/-- Rows 0 to 127 of the activations. -/
def ch0 (x0 : Vec F S384x8192 .bf16) : Vec F S128x8192 .bf16 := View.ld x0 (Rect.unit ![0, 0] S128x8192.size inb_S384x8192_S128x8192_0_0)
/-- Rows 128 to 255 of the activations. -/
def ch1 (x0 : Vec F S384x8192 .bf16) : Vec F S128x8192 .bf16 := View.ld x0 (Rect.unit ![128, 0] S128x8192.size inb_S384x8192_S128x8192_128_0)
/-- Rows 256 to 383 of the activations. -/
def ch2 (x0 : Vec F S384x8192 .bf16) : Vec F S128x8192 .bf16 := View.ld x0 (Rect.unit ![256, 0] S128x8192.size inb_S384x8192_S128x8192_256_0)

/-- The codes the first point keeps for the product, one piece of 128 rows after the other (last first). -/
def x8L (x0 : Vec F S384x8192 .bf16) : List (View.Piece (Elt F) S384x8192 .fp8e4m3) :=
  [⟨Rect.unit ![256, 0] S128x8192.size inb_S384x8192_S128x8192_256_0, k0_pay27 (k0_pay21 (ch2 x0)) (k0_pay22 (k0_pay21 (ch2 x0))) (k0_pay23)⟩,
   ⟨Rect.unit ![128, 0] S128x8192.size inb_S384x8192_S128x8192_128_0, k0_pay20 (k0_pay15 (ch1 x0)) (k0_pay16 (ch1 x0))⟩,
   ⟨Rect.unit ![0, 0] S128x8192.size inb_S384x8192_S128x8192_0_0, k0_pay14 (k0_pay6 (ch0 x0)) (k0_pay7 (ch0 x0)) (k0_pay8 (ch0 x0)) (k0_pay9 (ch0 x0)) (k0_pay10 (ch0 x0))⟩]

/-- The codes the first point hands out, likewise. -/
def codesL (x0 : Vec F S384x8192 .bf16) : List (View.Piece (Elt F) S384x8192 .fp8e4m3) :=
  [⟨Rect.unit ![256, 0] S128x8192.size inb_S384x8192_S128x8192_256_0, k0_pay26 (k0_pay21 (ch2 x0)) (k0_pay22 (k0_pay21 (ch2 x0))) (k0_pay23)⟩,
   ⟨Rect.unit ![128, 0] S128x8192.size inb_S384x8192_S128x8192_128_0, k0_pay19 (k0_pay15 (ch1 x0)) (k0_pay16 (ch1 x0))⟩,
   ⟨Rect.unit ![0, 0] S128x8192.size inb_S384x8192_S128x8192_0_0, k0_pay13 (k0_pay6 (ch0 x0)) (k0_pay7 (ch0 x0)) (k0_pay8 (ch0 x0)) (k0_pay9 (ch0 x0)) (k0_pay10 (ch0 x0))⟩]

/-- The scales, each repeated along 128 lanes, likewise. -/
def xsL (x0 : Vec F S384x8192 .bf16) : List (View.Piece (Elt F) S384x128 .f32) :=
  [⟨Rect.unit ![256, 0] S128x128.size inb_S384x128_S128x128_256_0, k0_pay25 (F := F) (k0_pay22 (k0_pay21 (ch2 x0))) (k0_pay23)⟩,
   ⟨Rect.unit ![128, 0] S128x128.size inb_S384x128_S128x128_128_0, k0_pay18 (F := F) (k0_pay16 (ch1 x0))⟩,
   ⟨Rect.unit ![0, 0] S128x128.size inb_S384x128_S128x128_0_0, k0_pay12 (k0_pay7 (ch0 x0)) (k0_pay8 (ch0 x0)) (k0_pay9 (ch0 x0)) (k0_pay10 (ch0 x0))⟩]

/-- The codes kept for the product. -/
def x8of (x0 : Vec F S384x8192 .bf16) : Vec F S384x8192 .fp8e4m3 := View.canon (x8L x0)
/-- The codes handed out. -/
def codesOf (x0 : Vec F S384x8192 .bf16) : Vec F S384x8192 .fp8e4m3 := View.canon (codesL x0)
/-- The scales along 128 lanes. -/
def xsOf (x0 : Vec F S384x8192 .bf16) : Vec F S384x128 .f32 := View.canon (xsL x0)
/-- The scales handed out: the first lane. -/
def scaleOf (xs : Vec F S384x128 .f32) : Vec F S384x1 .f32 := View.ld xs (Rect.unit ![0, 0] S384x1.size inb_S384x128_S384x1_0_0)

/-! ## One point: six tiles of 128 columns -/

/-- Columns 0 to 127 of a block of weight scales. -/
def ws0 (x3 : Vec F S1x768 .f32) : Vec F S1x128 .f32 := View.ld x3 (Rect.unit ![0, 0] S1x128.size inb_S1x768_S1x128_0_0)
/-- Columns 128 to 255 of a block of weight scales. -/
def ws1 (x3 : Vec F S1x768 .f32) : Vec F S1x128 .f32 := View.ld x3 (Rect.unit ![0, 128] S1x128.size inb_S1x768_S1x128_0_128)
/-- Columns 256 to 383 of a block of weight scales. -/
def ws2 (x3 : Vec F S1x768 .f32) : Vec F S1x128 .f32 := View.ld x3 (Rect.unit ![0, 256] S1x128.size inb_S1x768_S1x128_0_256)
/-- Columns 384 to 511 of a block of weight scales. -/
def ws3 (x3 : Vec F S1x768 .f32) : Vec F S1x128 .f32 := View.ld x3 (Rect.unit ![0, 384] S1x128.size inb_S1x768_S1x128_0_384)
/-- Columns 512 to 639 of a block of weight scales. -/
def ws4 (x3 : Vec F S1x768 .f32) : Vec F S1x128 .f32 := View.ld x3 (Rect.unit ![0, 512] S1x128.size inb_S1x768_S1x128_0_512)
/-- Columns 640 to 767 of a block of weight scales. -/
def ws5 (x3 : Vec F S1x768 .f32) : Vec F S1x128 .f32 := View.ld x3 (Rect.unit ![0, 640] S1x128.size inb_S1x768_S1x128_0_640)

/-- The lane number. -/
def lane : IVec S384x128 32 := iota .tc S384x128 32 [1] iota_S384x128_d1_w32
/-- The point's number as a word. -/
def gw (i : grid0.Coords) : BitVec 32 := BitVec.ofNat 32 (i 0).val

section Point
variable (i : grid0.Coords) (x8 : Vec F S384x8192 .fp8e4m3) (xs : Vec F S384x128 .f32) (x1 : Vec F S384x1 .i32) (x2 : Vec F S768x8192 .fp8e4m3) (x3 : Vec F S1x768 .f32)

/-- The running maximum after the first two tiles, -/
def m2 (mo : Vec F S384x128 .f32) : FVec F S384x128 .f32 :=
  k0_pay44 (gw i) (k0_pay33 x8 x2) mo xs lane (k0_pay35 x8 x2 xs (ws0 x3)) (k0_pay36 i) (ws1 x3)
/-- after four, -/
def m4 (mo : Vec F S384x128 .f32) : FVec F S384x128 .f32 :=
  k0_pay54 (gw i) (k0_pay33 x8 x2) xs lane (m2 i x8 xs x2 x3 mo) (k0_pay45 (k0_pay33 x8 x2) xs (ws2 x3)) (k0_pay46 (gw i) lane) (ws3 x3)
/-- after all six. -/
def m6 (mo : Vec F S384x128 .f32) : FVec F S384x128 .f32 :=
  k0_pay64 (gw i) (k0_pay33 x8 x2) xs lane (m4 i x8 xs x2 x3 mo) (k0_pay55 (k0_pay33 x8 x2) xs (ws4 x3)) (k0_pay56 (gw i) lane) (ws5 x3)

/-- The running maximum a point leaves. -/
def stM (mo : Vec F S384x128 .f32) : FVec F S384x128 .f32 := k0_pay1 (m6 i x8 xs x2 x3 mo)

/-- The running sum of exponentials a point leaves. -/
def stL (mo lo : Vec F S384x128 .f32) : FVec F S384x128 .f32 :=
  k0_pay2 (k0_pay58 (k0_pay55 (k0_pay33 x8 x2) xs (ws4 x3)) (k0_pay56 (gw i) lane))
    (k0_pay63 (gw i) (k0_pay33 x8 x2) xs lane (ws5 x3))
    (m6 i x8 xs x2 x3 mo)
    (k0_pay65 (gw i) (k0_pay33 x8 x2) mo xs lane (k0_pay39 (k0_pay35 x8 x2 xs (ws0 x3)) (k0_pay36 i)) (k0_pay43 (gw i) (k0_pay33 x8 x2) xs lane (ws1 x3))
      (k0_pay49 (k0_pay45 (k0_pay33 x8 x2) xs (ws2 x3)) (k0_pay46 (gw i) lane)) (m4 i x8 xs x2 x3 mo) (k0_pay55 (k0_pay33 x8 x2) xs (ws4 x3)) (k0_pay56 (gw i) lane) (ws5 x3) lo)
    (k0_pay66 (gw i) (k0_pay33 x8 x2) xs lane (k0_pay53 (gw i) (k0_pay33 x8 x2) xs lane (ws3 x3)) (m4 i x8 xs x2 x3 mo) (k0_pay55 (k0_pay33 x8 x2) xs (ws4 x3)) (k0_pay56 (gw i) lane) (ws5 x3))

/-- The running sum of logits a point leaves. -/
def stT (tq : Vec F S384x128 .f32) : FVec F S384x128 .f32 :=
  k0_pay3 (k0_pay61 (gw i) (k0_pay33 x8 x2) xs lane
    (k0_pay57 (gw i) (k0_pay33 x8 x2) xs lane (k0_pay47 (gw i) (k0_pay33 x8 x2) xs lane (k0_pay37 i x8 x2 xs tq (ws0 x3)) (ws1 x3) (ws2 x3)) (ws3 x3) (ws4 x3))
    (ws5 x3))

/-- The running label logit a point leaves. -/
def stP (po : Vec F S384x128 .f32) : FVec F S384x128 .f32 :=
  k0_pay4 (k0_pay62 (gw i) (k0_pay33 x8 x2) xs (k0_pay34 (F := F) x1) lane
    (k0_pay52 (gw i) (k0_pay33 x8 x2) xs (k0_pay34 (F := F) x1) lane
      (k0_pay42 (gw i) (k0_pay33 x8 x2) xs (k0_pay34 (F := F) x1) lane (k0_pay38 i x8 x2 xs x1 po (ws0 x3)) (ws1 x3))
      (k0_pay45 (k0_pay33 x8 x2) xs (ws2 x3)) (k0_pay48 (gw i) (k0_pay34 (F := F) x1) lane) (ws3 x3))
    (Scalar.addi (Scalar.muli (gw i) 768#32) 512#32)
    (k0_pay55 (k0_pay33 x8 x2) xs (ws4 x3)) (ws5 x3))

end Point

/-- Of a list of stores that cover a buffer, the buffer read back is what the stores alone say. -/
theorem read_cover {sig : RefSig} {κ : Kind} {sp : Space} {s : Shape} {e : EltTy} {Val : EltTy → Type} [∀ e, Nonempty (Val e)] (v : View sig κ sp s e)
    (f : v.ty.Contents Val) (L : List (View.Piece Val s e)) (n : Fin s.rank → ℕ) (h : View.Piece.tiledL L n = true) :
    v.read Val (v.writes Val f L) = View.canon L :=
  View.read_writes_eq_canon v f L (View.cover_of_tiledL L n h)

/-- Read back whole, stores are what they alone say. -/
theorem canon_full {sig : RefSig} {κ : Kind} {sp : Space} {s : Shape} {e : EltTy} {Val : EltTy → Type} [∀ e, Nonempty (Val e)] (v : View sig κ sp s e)
    (L : List (View.Piece Val s e)) {off : Fin s.rank → ℕ} (inb : ∀ a, off a + s.size a ≤ s.size a) :
    v.readCov L (Rect.unit off s.size inb).toLoadRect = View.canon L := by
  rw [View.readCov_eq_canon']; funext y; exact congrArg (View.canon L) (Rect.emb_unit_full inb y)

/-- A load of all of a S384x8192 buffer reads it. -/
theorem ld_S384x8192 {e : EltTy} {Val : EltTy → Type} (X : S384x8192.Idx → Val e) (inb : ∀ a : Fin 2, (![0, 0] : Fin 2 → ℕ) a + (![384, 8192] : Fin 2 → ℕ) a ≤ S384x8192.size a) :
    View.ld (S := S384x8192) (e' := e) X (Rect.unit (s := S384x8192) ![0, 0] ![384, 8192] inb) = X :=
  funext fun y => congrArg X (Rect.emb_unit_full (s := S384x8192) inb y)
/-- A load of all of a S384x8192 buffer that was stored to reads what the stores alone say. -/
theorem cov_S384x8192 {sig : RefSig} {κ : Kind} {sp : Space} {e : EltTy} {Val : EltTy → Type} [∀ e, Nonempty (Val e)] (v : View sig κ sp S384x8192 e) (L : List (View.Piece Val S384x8192 e))
    (inb : ∀ a : Fin 2, (![0, 0] : Fin 2 → ℕ) a + (![384, 8192] : Fin 2 → ℕ) a ≤ S384x8192.size a) :
    v.readCov L (Rect.unit (s := S384x8192) ![0, 0] ![384, 8192] inb).toLoadRect = View.canon L := canon_full v L inb
/-- Stores of which the last fills a S384x8192 buffer leave that one's value. -/
theorem canon_S384x8192 {e : EltTy} {Val : EltTy → Type} [∀ e, Nonempty (Val e)] (inb : ∀ a : Fin 2, (![0, 0] : Fin 2 → ℕ) a + (![384, 8192] : Fin 2 → ℕ) a ≤ S384x8192.size a)
    (x : S384x8192.Idx → Val e) (L : List (View.Piece Val S384x8192 e)) :
    View.canon ((⟨Rect.unit (s := S384x8192) ![0, 0] ![384, 8192] inb, x⟩ : View.Piece Val S384x8192 e) :: L) = x := by
  funext y
  have h := View.canon_cons_emb (Rect.unit (s := S384x8192) ![0, 0] ![384, 8192] inb) x L y
  rwa [Rect.emb_unit_full (s := S384x8192) inb y] at h

/-- A load of all of a S768x8192 buffer reads it. -/
theorem ld_S768x8192 {e : EltTy} {Val : EltTy → Type} (X : S768x8192.Idx → Val e) (inb : ∀ a : Fin 2, (![0, 0] : Fin 2 → ℕ) a + (![768, 8192] : Fin 2 → ℕ) a ≤ S768x8192.size a) :
    View.ld (S := S768x8192) (e' := e) X (Rect.unit (s := S768x8192) ![0, 0] ![768, 8192] inb) = X :=
  funext fun y => congrArg X (Rect.emb_unit_full (s := S768x8192) inb y)
/-- A load of all of a S768x8192 buffer that was stored to reads what the stores alone say. -/
theorem cov_S768x8192 {sig : RefSig} {κ : Kind} {sp : Space} {e : EltTy} {Val : EltTy → Type} [∀ e, Nonempty (Val e)] (v : View sig κ sp S768x8192 e) (L : List (View.Piece Val S768x8192 e))
    (inb : ∀ a : Fin 2, (![0, 0] : Fin 2 → ℕ) a + (![768, 8192] : Fin 2 → ℕ) a ≤ S768x8192.size a) :
    v.readCov L (Rect.unit (s := S768x8192) ![0, 0] ![768, 8192] inb).toLoadRect = View.canon L := canon_full v L inb
/-- Stores of which the last fills a S768x8192 buffer leave that one's value. -/
theorem canon_S768x8192 {e : EltTy} {Val : EltTy → Type} [∀ e, Nonempty (Val e)] (inb : ∀ a : Fin 2, (![0, 0] : Fin 2 → ℕ) a + (![768, 8192] : Fin 2 → ℕ) a ≤ S768x8192.size a)
    (x : S768x8192.Idx → Val e) (L : List (View.Piece Val S768x8192 e)) :
    View.canon ((⟨Rect.unit (s := S768x8192) ![0, 0] ![768, 8192] inb, x⟩ : View.Piece Val S768x8192 e) :: L) = x := by
  funext y
  have h := View.canon_cons_emb (Rect.unit (s := S768x8192) ![0, 0] ![768, 8192] inb) x L y
  rwa [Rect.emb_unit_full (s := S768x8192) inb y] at h

/-- A load of all of a S384x128 buffer reads it. -/
theorem ld_S384x128 {e : EltTy} {Val : EltTy → Type} (X : S384x128.Idx → Val e) (inb : ∀ a : Fin 2, (![0, 0] : Fin 2 → ℕ) a + (![384, 128] : Fin 2 → ℕ) a ≤ S384x128.size a) :
    View.ld (S := S384x128) (e' := e) X (Rect.unit (s := S384x128) ![0, 0] ![384, 128] inb) = X :=
  funext fun y => congrArg X (Rect.emb_unit_full (s := S384x128) inb y)
/-- A load of all of a S384x128 buffer that was stored to reads what the stores alone say. -/
theorem cov_S384x128 {sig : RefSig} {κ : Kind} {sp : Space} {e : EltTy} {Val : EltTy → Type} [∀ e, Nonempty (Val e)] (v : View sig κ sp S384x128 e) (L : List (View.Piece Val S384x128 e))
    (inb : ∀ a : Fin 2, (![0, 0] : Fin 2 → ℕ) a + (![384, 128] : Fin 2 → ℕ) a ≤ S384x128.size a) :
    v.readCov L (Rect.unit (s := S384x128) ![0, 0] ![384, 128] inb).toLoadRect = View.canon L := canon_full v L inb
/-- Stores of which the last fills a S384x128 buffer leave that one's value. -/
theorem canon_S384x128 {e : EltTy} {Val : EltTy → Type} [∀ e, Nonempty (Val e)] (inb : ∀ a : Fin 2, (![0, 0] : Fin 2 → ℕ) a + (![384, 128] : Fin 2 → ℕ) a ≤ S384x128.size a)
    (x : S384x128.Idx → Val e) (L : List (View.Piece Val S384x128 e)) :
    View.canon ((⟨Rect.unit (s := S384x128) ![0, 0] ![384, 128] inb, x⟩ : View.Piece Val S384x128 e) :: L) = x := by
  funext y
  have h := View.canon_cons_emb (Rect.unit (s := S384x128) ![0, 0] ![384, 128] inb) x L y
  rwa [Rect.emb_unit_full (s := S384x128) inb y] at h

/-- A load of all of a S384x1 buffer reads it. -/
theorem ld_S384x1 {e : EltTy} {Val : EltTy → Type} (X : S384x1.Idx → Val e) (inb : ∀ a : Fin 2, (![0, 0] : Fin 2 → ℕ) a + (![384, 1] : Fin 2 → ℕ) a ≤ S384x1.size a) :
    View.ld (S := S384x1) (e' := e) X (Rect.unit (s := S384x1) ![0, 0] ![384, 1] inb) = X :=
  funext fun y => congrArg X (Rect.emb_unit_full (s := S384x1) inb y)
/-- A load of all of a S384x1 buffer that was stored to reads what the stores alone say. -/
theorem cov_S384x1 {sig : RefSig} {κ : Kind} {sp : Space} {e : EltTy} {Val : EltTy → Type} [∀ e, Nonempty (Val e)] (v : View sig κ sp S384x1 e) (L : List (View.Piece Val S384x1 e))
    (inb : ∀ a : Fin 2, (![0, 0] : Fin 2 → ℕ) a + (![384, 1] : Fin 2 → ℕ) a ≤ S384x1.size a) :
    v.readCov L (Rect.unit (s := S384x1) ![0, 0] ![384, 1] inb).toLoadRect = View.canon L := canon_full v L inb
/-- Stores of which the last fills a S384x1 buffer leave that one's value. -/
theorem canon_S384x1 {e : EltTy} {Val : EltTy → Type} [∀ e, Nonempty (Val e)] (inb : ∀ a : Fin 2, (![0, 0] : Fin 2 → ℕ) a + (![384, 1] : Fin 2 → ℕ) a ≤ S384x1.size a)
    (x : S384x1.Idx → Val e) (L : List (View.Piece Val S384x1 e)) :
    View.canon ((⟨Rect.unit (s := S384x1) ![0, 0] ![384, 1] inb, x⟩ : View.Piece Val S384x1 e) :: L) = x := by
  funext y
  have h := View.canon_cons_emb (Rect.unit (s := S384x1) ![0, 0] ![384, 1] inb) x L y
  rwa [Rect.emb_unit_full (s := S384x1) inb y] at h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, k0_cond1, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

end Cert.Kernel.Gen

end
-- ==== Proof.KRunA.lean ====
/- The body at the first point. -/
module

public import proofs.«01_k».proof.Proof.KStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first point: the activations are quantised, the running values start, and move one step. -/
theorem runA (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : cond0_0 i) (hc1 : ¬cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (y4) ∗ owns (c : Thread nD τ) arg6 fullShare (codesOf x0) ∗ owns (c : Thread nD τ) arg7 fullShare (y6) ∗ owns (c : Thread nD τ) arg8 fullShare (x8of x0) ∗ owns (c : Thread nD τ) arg9 fullShare (xsOf x0) ∗ owns (c : Thread nD τ) arg10 fullShare (stM i (x8of x0) (xsOf x0) x2 x3 (k0_pay29 (k0_pay28 (F := F)))) ∗ owns (c : Thread nD τ) arg11 fullShare (stL i (x8of x0) (xsOf x0) x2 x3 (k0_pay29 (k0_pay28 (F := F))) (k0_pay30 (F := F))) ∗ owns (c : Thread nD τ) arg12 fullShare (stT i (x8of x0) (xsOf x0) x2 x3 (k0_pay31 (F := F))) ∗ owns (c : Thread nD τ) arg13 fullShare (stP i (x8of x0) (xsOf x0) x1 x2 x3 (k0_pay32 (F := F)))) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; have h := read_cover (Val := Elt F) arg6.view (harg6.unread y5) (codesL x0) S128x8192.size (by sl_kernel_rfl); delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7; simp only [View.readAt_eq_ld, Memref.IsWhole.read_unread]; exact h
  isplitl [H7]
  · iexists _; isplitr; swap; · iexact H7
    ipureintro; exact harg7.read_unread _
  isplitl [H8]
  · iexists _; isplitr; swap; · iexact H8
    ipureintro; have h := read_cover (Val := Elt F) arg8.view (harg8.unread x8) (x8L x0) S128x8192.size (by sl_kernel_rfl); delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7; simp only [View.readAt_eq_ld, Memref.IsWhole.read_unread]; exact h
  isplitl [H9]
  · iexists _; isplitr; swap; · iexact H9
    ipureintro; have h := read_cover (Val := Elt F) arg9.view (harg9.unread xs) (xsL x0) S128x128.size (by sl_kernel_rfl); delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7; simp only [View.readAt_eq_ld, Memref.IsWhole.read_unread]; exact h
  isplitl [H10]
  · iexists _; isplitr; swap; · iexact H10
    ipureintro; (try delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H11]
  · iexists _; isplitr; swap; · iexact H11
    ipureintro; (try delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H12]
  · iexists _; isplitr; swap; · iexact H12
    ipureintro; (try delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  iexists _; isplitr; swap; · iexact H13
  ipureintro; (try delta runA.sl.H10_1 runA.sl.H11_1 runA.sl.H12_1 runA.sl.H13_1 runA.sl.H8_3 runA.sl.H9_3 runA.sl.r runA.sl.r_1 runA.sl.r_10 runA.sl.r_11 runA.sl.r_12 runA.sl.r_13 runA.sl.r_14 runA.sl.r_15 runA.sl.r_16 runA.sl.r_17 runA.sl.r_18 runA.sl.r_19 runA.sl.r_2 runA.sl.r_20 runA.sl.r_21 runA.sl.r_22 runA.sl.r_23 runA.sl.r_24 runA.sl.r_25 runA.sl.r_26 runA.sl.r_27 runA.sl.r_28 runA.sl.r_29 runA.sl.r_3 runA.sl.r_30 runA.sl.r_31 runA.sl.r_32 runA.sl.r_33 runA.sl.r_34 runA.sl.r_35 runA.sl.r_4 runA.sl.r_5 runA.sl.r_6 runA.sl.r_7 runA.sl.r_8 runA.sl.r_9 runA.sl.v10 runA.sl.v109 runA.sl.v11 runA.sl.v110 runA.sl.v12 runA.sl.v157 runA.sl.v3 runA.sl.v6 runA.sl.v7); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)

end Cert.Kernel.Gen

end
-- ==== Proof.KRunB.lean ====
/- The body at a point that is neither the first nor the last. -/
module

public import proofs.«01_k».proof.Proof.KStep
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle point: the four running values move one step, everything else stays. -/
theorem runB (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : ¬cond0_0 i) (hc1 : ¬cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (y4) ∗ owns (c : Thread nD τ) arg6 fullShare (y5) ∗ owns (c : Thread nD τ) arg7 fullShare (y6) ∗ owns (c : Thread nD τ) arg8 fullShare (x8) ∗ owns (c : Thread nD τ) arg9 fullShare (xs) ∗ owns (c : Thread nD τ) arg10 fullShare (stM i x8 xs x2 x3 mo) ∗ owns (c : Thread nD τ) arg11 fullShare (stL i x8 xs x2 x3 mo lo) ∗ owns (c : Thread nD τ) arg12 fullShare (stT i x8 xs x2 x3 tq) ∗ owns (c : Thread nD τ) arg13 fullShare (stP i x8 xs x1 x2 x3 po)) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  isplitl [H11]
  · iexists _; isplitr; swap; · iexact H11
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  isplitl [H12]
  · iexists _; isplitr; swap; · iexact H12
    ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)
  iexists _; isplitr; swap; · iexact H13
  ipureintro; delta runB.sl.r runB.sl.r_1 runB.sl.r_10 runB.sl.r_11 runB.sl.r_12 runB.sl.r_13 runB.sl.r_14 runB.sl.r_15 runB.sl.r_16 runB.sl.r_17 runB.sl.r_18 runB.sl.r_19 runB.sl.r_2 runB.sl.r_20 runB.sl.r_21 runB.sl.r_22 runB.sl.r_23 runB.sl.r_24 runB.sl.r_25 runB.sl.r_26 runB.sl.r_27 runB.sl.r_28 runB.sl.r_3 runB.sl.r_4 runB.sl.r_5 runB.sl.r_6 runB.sl.r_7 runB.sl.r_8 runB.sl.r_9 runB.sl.v10 runB.sl.v109 runB.sl.v110; refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM stL stT stP m6 m4 m2 gw lane; rfl) | (unfold stM; rfl)

end Cert.Kernel.Gen

end
-- ==== Proof.KRunC.lean ====
/- The body at the last point. -/
module

public import proofs.«01_k».proof.Proof.KStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The last point: the running values move one step, then the loss and the scales are handed out. -/
theorem runC (c : Dev nD) (i : grid0.Coords) (arg1 : Memref sig .tc .vmem S384x8192 .bf16) (harg1 : arg1.IsWhole) (arg2 : Memref sig .tc .vmem S384x1 .i32) (harg2 : arg2.IsWhole) (arg3 : Memref sig .tc .vmem S768x8192 .fp8e4m3) (harg3 : arg3.IsWhole) (arg4 : Memref sig .tc .vmem S1x768 .f32) (harg4 : arg4.IsWhole) (arg5 : Memref sig .tc .vmem S384x1 .f32) (harg5 : arg5.IsWhole) (arg6 : Memref sig .tc .vmem S384x8192 .fp8e4m3) (harg6 : arg6.IsWhole) (arg7 : Memref sig .tc .vmem S384x1 .f32) (harg7 : arg7.IsWhole) (arg8 : Memref sig .tc .vmem S384x8192 .fp8e4m3) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole) (arg12 : Memref sig .tc .vmem S384x128 .f32) (harg12 : arg12.IsWhole) (arg13 : Memref sig .tc .vmem S384x128 .f32) (harg13 : arg13.IsWhole) (hc0 : ¬cond0_0 i) (hc1 : cond0_1 i)
    (x0 : Vec F S384x8192 .bf16) (x1 : Vec F S384x1 .i32) (x2 : Vec F S768x8192 .fp8e4m3) (x3 : Vec F S1x768 .f32) (y4 : Vec F S384x1 .f32) (y5 : Vec F S384x8192 .fp8e4m3) (y6 : Vec F S384x1 .f32) (x8 : Vec F S384x8192 .fp8e4m3) (xs : Vec F S384x128 .f32) (mo : Vec F S384x128 .f32) (lo : Vec F S384x128 .f32) (tq : Vec F S384x128 .f32) (po : Vec F S384x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare x8 ∗ owns (c : Thread nD τ) arg9 fullShare xs ∗ owns (c : Thread nD τ) arg10 fullShare mo ∗ owns (c : Thread nD τ) arg11 fullShare lo ∗ owns (c : Thread nD τ) arg12 fullShare tq ∗ owns (c : Thread nD τ) arg13 fullShare po ∗
      (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (k0_pay5 (stM i x8 xs x2 x3 mo) (stL i x8 xs x2 x3 mo lo) (stM i x8 xs x2 x3 mo) (stT i x8 xs x2 x3 tq) (stP i x8 xs x1 x2 x3 po)) ∗ owns (c : Thread nD τ) arg6 fullShare (y5) ∗ owns (c : Thread nD τ) arg7 fullShare (scaleOf xs) ∗ owns (c : Thread nD τ) arg8 fullShare (x8) ∗ owns (c : Thread nD τ) arg9 fullShare (xs) ∗ owns (c : Thread nD τ) arg10 fullShare (stM i x8 xs x2 x3 mo) ∗ owns (c : Thread nD τ) arg11 fullShare (stL i x8 xs x2 x3 mo lo) ∗ owns (c : Thread nD τ) arg12 fullShare (stT i x8 xs x2 x3 tq) ∗ owns (c : Thread nD τ) arg13 fullShare (stP i x8 xs x1 x2 x3 po)) -∗ K ⟨⟩))
      ⊢ wp frame (wpE (defs₀ (F := F)) Variants.none c none) E (cc0_linear_ce i arg1 harg1 arg2 harg2 arg3 harg3 arg4 harg4 arg5 harg5 arg6 harg6 arg7 harg7 arg8 harg8 arg9 harg9 arg10 harg10 arg11 harg11 arg12 harg12 arg13 harg13) K := by
  simp only [cc0_linear_ce_eq_skeleton]; unfold cc0_linear_ce_skel
  simp only [k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H6]
  · iexists _; isplitr; swap; · iexact H6
    ipureintro; exact harg6.read_unread _
  isplitl [H7]
  · iexists _; isplitr; swap; · iexact H7
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H11]
  · iexists _; isplitr; swap; · iexact H11
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  isplitl [H12]
  · iexists _; isplitr; swap; · iexact H12
    ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)
  iexists _; isplitr; swap; · iexact H13
  ipureintro; (try delta runC.sl.H10_1 runC.sl.H11_1 runC.sl.H12_1 runC.sl.H13_1 runC.sl.r runC.sl.r_1 runC.sl.r_10 runC.sl.r_11 runC.sl.r_12 runC.sl.r_13 runC.sl.r_14 runC.sl.r_15 runC.sl.r_16 runC.sl.r_17 runC.sl.r_18 runC.sl.r_19 runC.sl.r_2 runC.sl.r_20 runC.sl.r_21 runC.sl.r_22 runC.sl.r_23 runC.sl.r_24 runC.sl.r_25 runC.sl.r_26 runC.sl.r_27 runC.sl.r_28 runC.sl.r_3 runC.sl.r_4 runC.sl.r_5 runC.sl.r_6 runC.sl.r_7 runC.sl.r_8 runC.sl.r_9 runC.sl.v10 runC.sl.v109 runC.sl.v110 runC.sl.v194 runC.sl.v197 runC.sl.v207 runC.sl.v212); refine (View.read_writes_full _ _ _ _ _).trans ?_; simp only [View.readAt_eq_ld, Memref.IsWhole.read_unread, ld_S384x8192, ld_S768x8192, ld_S384x128, ld_S384x1, cov_S384x8192, cov_S768x8192, cov_S384x128, cov_S384x1, canon_S384x128]; first | rfl | (unfold stM m6 m4 m2 gw lane; rfl) | (unfold stM; rfl)

end Cert.Kernel.Gen

end
-- ==== Proof.KRun.lean ====
/- The run of the kernel: what every buffer may hold after it. -/
module

public import proofs.«01_k».proof.Proof.KRunA
public import proofs.«01_k».proof.Proof.KRunB
public import proofs.«01_k».proof.Proof.KRunC
public import Idealize.ShloMosaic.Lib.Pipeline.ArrRel
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the running values may be after each point -/

/-- The running maximum, sum of exponentials, sum of logits and label logit. -/
structure St (F : FTy → Type) where
  mx : Vec F S384x128 .f32
  l : Vec F S384x128 .f32
  s : Vec F S384x128 .f32
  p : Vec F S384x128 .f32

/-- The first grid point. -/
abbrev pt0 : Fin cfg0.N := ⟨0, lt_of_lt_of_eq (by decide) (show 50 = cfg0.N from N_0.symm)⟩
/-- The activations, as the kernel reads them. -/
def xIn (c : Dev nD) : Vec F S384x8192 .bf16 := iblk m c 0 pt0
/-- The labels, as the kernel reads them. -/
def labIn (c : Dev nD) : Vec F S384x1 .i32 := iblk m c 1 pt0
/-- The weights a point reads: the array's block where it lies inside the array, anything (`d`) outside. -/
def wIn (c : Dev nD) (t : Fin cfg0.N) (d : Vec F S768x8192 .fp8e4m3) : Vec F S768x8192 .fp8e4m3 := (cfg0.win 2).fill (cfg0.grid.coords t) d (iblk m c 2 t)
/-- The weight scales a point reads, likewise. -/
def wsIn (c : Dev nD) (t : Fin cfg0.N) (d : Vec F S1x768 .f32) : Vec F S1x768 .f32 := (cfg0.win 3).fill (cfg0.grid.coords t) d (iblk m c 3 t)

/-- The running values before the first point. -/
def stInit : St F := ⟨k0_pay29 (k0_pay28 (F := F)), k0_pay30, k0_pay31, k0_pay32⟩
/-- One point's step, on the weights and scales it read. -/
def stStep (i : grid0.Coords) (x8 : Vec F S384x8192 .fp8e4m3) (xs : Vec F S384x128 .f32) (x1 : Vec F S384x1 .i32) (x2 : Vec F S768x8192 .fp8e4m3) (x3 : Vec F S1x768 .f32) (s : St F) : St F :=
  ⟨stM i x8 xs x2 x3 s.mx, stL i x8 xs x2 x3 s.mx s.l, stT i x8 xs x2 x3 s.s, stP i x8 xs x1 x2 x3 s.p⟩
/-- The loss the last point makes of the running values. -/
def lossOf (s : St F) : Vec F S384x1 .f32 := k0_pay5 s.mx s.l s.mx s.s s.p

/-- The running values after `n` points, for some contents of the blocks outside the arrays. -/
def Reach (c : Dev nD) : ℕ → St F → Prop
  | 0, s => s = stInit
  | n + 1, s => ∃ (h : n < cfg0.N) (d2 : Vec F S768x8192 .fp8e4m3) (d3 : Vec F S1x768 .f32) (s' : St F), Reach c n s' ∧
      s = stStep (grid0.coords ⟨n, h⟩) (x8of (xIn m c)) (xsOf (xIn m c)) (labIn m c) (wIn m c ⟨n, h⟩ d2) (wsIn m c ⟨n, h⟩ d3) s'

theorem Reach_step (c : Dev nD) (t : Fin cfg0.N) (n : ℕ) (hn : t.val = n) (d2 : Vec F S768x8192 .fp8e4m3) (d3 : Vec F S1x768 .f32) (s' : St F) (h : Reach m c n s') :
    Reach m c (n + 1) (stStep (grid0.coords t) (x8of (xIn m c)) (xsOf (xIn m c)) (labIn m c) (wIn m c t d2) (wsIn m c t d3) s') := by
  subst hn; exact ⟨t.isLt, d2, d3, s', h, rfl⟩

/-! ## The proof data -/

/-- The kernel's own buffers, at given contents. -/
def held (c : Dev nD) (x8 : Vec F S384x8192 .fp8e4m3) (xs : Vec F S384x128 .f32) (s : St F) : sProp 𝕄 :=
  iprop(iprop(owns (c : Thread nD τ) (Memref.whole cc0_scratch0) fullShare x8 ∗ owns (c : Thread nD τ) (Memref.whole cc0_scratch1) fullShare xs ∗ owns (c : Thread nD τ) (Memref.whole cc0_scratch2) fullShare s.mx ∗ owns (c : Thread nD τ) (Memref.whole cc0_scratch3) fullShare s.l ∗ owns (c : Thread nD τ) (Memref.whole cc0_scratch4) fullShare s.s ∗ owns (c : Thread nD τ) (Memref.whole cc0_scratch5) fullShare s.p) ∗ (∃ r, prngReg c r))

/-- The invariant before point `n`: at the start anything, afterwards the codes and scales of the activations and running values that `n` points may leave. -/
def PhiS (c : Dev nD) : ℕ → sProp 𝕄
  | 0 => Pipeline.ΦA spec0 c
  | n + 1 => iprop(∃ s, ⌜Reach m c (n + 1) s⌝ ∗ held c (x8of (xIn m c)) (xsOf (xIn m c)) s)

theorem PhiS_pos (c : Dev nD) (n : ℕ) (h : n ≠ 0) : PhiS m c n = iprop(∃ s, ⌜Reach m c n s⌝ ∗ held c (x8of (xIn m c)) (xsOf (xIn m c)) s) := by
  cases n with
  | zero => exact absurd rfl h
  | succ n => rfl

/-- The kernel's own buffers at anything. -/
theorem PhiA0_eq (c : Dev nD) :
    (Pipeline.ΦA spec0 c : sProp 𝕄)
      = iprop(iprop((∃ d, owns (c : Thread nD τ) (Memref.whole cc0_scratch0 : Memref sig .tc .vmem S384x8192 .fp8e4m3) fullShare d) ∗ (∃ d, owns (c : Thread nD τ) (Memref.whole cc0_scratch1 : Memref sig .tc .vmem S384x128 .f32) fullShare d) ∗ (∃ d, owns (c : Thread nD τ) (Memref.whole cc0_scratch2 : Memref sig .tc .vmem S384x128 .f32) fullShare d) ∗ (∃ d, owns (c : Thread nD τ) (Memref.whole cc0_scratch3 : Memref sig .tc .vmem S384x128 .f32) fullShare d) ∗ (∃ d, owns (c : Thread nD τ) (Memref.whole cc0_scratch4 : Memref sig .tc .vmem S384x128 .f32) fullShare d) ∗ (∃ d, owns (c : Thread nD τ) (Memref.whole cc0_scratch5 : Memref sig .tc .vmem S384x128 .f32) fullShare d)) ∗ (∃ r, prngReg c r)) := by
  unfold Pipeline.ΦA; rw [scopedRest0_eq]; simp only [owns_whole]; try rfl

/-- What the body may leave in each window's buffer: the inputs as found; the codes from the first point on; the loss and the scales at the last point. -/
def aft (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, _, X => t.val = 49 → ∃ s, Reach m c 50 s ∧ X = lossOf s
  | ⟨5, _⟩, _, X => X = codesOf (xIn m c)
  | ⟨6, _⟩, _, X => t.val = 49 → X = scaleOf (xsOf (xIn m c))

/-- The proof data of the pipeline on core `c`. -/
def rdat (c : Dev nD) : RDat τ (Elt F) Unit ℕ (UR sig nD τ) ℕ cfg0 c where
  A w := V m c (Pipeline.arrRef spec0 w)
  after w t Y X := aft m c w t Y X
  Φ t := PhiS m c t.val
  q _ := fullShare
  owed _ := 0

theorem rA_eq (c : Dev nD) (w : Fin cfg0.W) : (rdat m c).A w = V m c (Pipeline.arrRef spec0 w) := by dsimp only [rdat]
theorem rafter_eq (c : Dev nD) (w : Fin cfg0.W) (t : Fin cfg0.N) (Y X) : (rdat m c).after w t Y X = aft m c w t Y X := by dsimp only [rdat]

/-- The activations' buffer holds them at every point. -/
theorem finds0 (c : Dev nD) (t : Fin cfg0.N) (Y) (h : (rdat m c).Finds 0 t Y) : Y = xIn m c := by
  obtain ⟨d, hd⟩ := (rdat m c).finds_in_eq_fetched 0 rfl (fun _ _ _ => rfl) (fun t Y X h => by rw [rafter_eq] at h; exact h) t Y h
  rw [hd, (rdat m c).fetched_congr 0 (t := t) (t' := pt0) rfl rfl]
  unfold RDat.fetched RDat.blockOf xIn iblk; rw [rA_eq]; try rfl
/-- The labels' buffer holds them at every point. -/
theorem finds1 (c : Dev nD) (t : Fin cfg0.N) (Y) (h : (rdat m c).Finds 1 t Y) : Y = labIn m c := by
  obtain ⟨d, hd⟩ := (rdat m c).finds_in_eq_fetched 1 rfl (fun _ _ _ => rfl) (fun t Y X h => by rw [rafter_eq] at h; exact h) t Y h
  rw [hd, (rdat m c).fetched_congr 1 (t := t) (t' := pt0) rfl rfl]
  unfold RDat.fetched RDat.blockOf labIn iblk; rw [rA_eq]; try rfl
/-- The weights' buffer holds the point's block. -/
theorem finds2 (c : Dev nD) (t : Fin cfg0.N) (Y) (h : (rdat m c).Finds 2 t Y) : ∃ d, Y = wIn m c t d := by
  obtain ⟨d, hd⟩ := ((rdat m c).finds_of_fetch (fetch0_2 t) Y).mp h
  refine ⟨d, hd.trans ?_⟩
  unfold RDat.fetched RDat.blockOf wIn iblk; rw [rA_eq]
/-- The weight scales' buffer holds the point's block. -/
theorem finds3 (c : Dev nD) (t : Fin cfg0.N) (Y) (h : (rdat m c).Finds 3 t Y) : ∃ d, Y = wsIn m c t d := by
  obtain ⟨d, hd⟩ := ((rdat m c).finds_of_fetch (fetch0_3 t) Y).mp h
  refine ⟨d, hd.trans ?_⟩
  unfold RDat.fetched RDat.blockOf wsIn iblk; rw [rA_eq]
/-- The codes' buffer holds the codes after the first point. -/
theorem finds5 (c : Dev nD) (t : Fin cfg0.N) (ht : t.val ≠ 0) (Y) (h : (rdat m c).Finds 5 t Y) : Y = codesOf (xIn m c) := by
  rcases ((rdat m c).finds_of_pos rfl ht Y).mp h with h | ⟨_, _, h⟩
  · exfalso; have := (flush0_5 _).mp h; have hN : t.val < 50 := lt_of_lt_of_eq t.isLt (show cfg0.N = 50 from N_0); dsimp only at this; omega
  · rw [rafter_eq] at h; exact h

/-! ## The body, at a generic point -/

/-- What the body finds at point `t`, the windows one by one. -/
def bodyPre (c : Dev nD) (t : Fin cfg0.N) (y4 : Vec F S384x1 .f32) (y5 : Vec F S384x8192 .fp8e4m3) (y6 : Vec F S384x1 .f32) (d2 : Vec F S768x8192 .fp8e4m3) (d3 : Vec F S1x768 .f32) : sProp 𝕄 :=
  iprop(PhiS m c t.val ∗ (rdat m c).owesAt () t.castSucc
    ∗ owns (c : Thread nD τ) (win0_0.stage (cfg0.slots t 0)) fullShare (xIn m c)
    ∗ owns (c : Thread nD τ) (win0_1.stage (cfg0.slots t 1)) fullShare (labIn m c)
    ∗ owns (c : Thread nD τ) (win0_2.stage (cfg0.slots t 2)) fullShare (wIn m c t d2)
    ∗ owns (c : Thread nD τ) (win0_3.stage (cfg0.slots t 3)) fullShare (wsIn m c t d3)
    ∗ owns (c : Thread nD τ) (win0_4.stage (cfg0.slots t 4)) fullShare y4
    ∗ owns (c : Thread nD τ) (win0_5.stage (cfg0.slots t 5)) fullShare y5
    ∗ owns (c : Thread nD τ) (win0_6.stage (cfg0.slots t 6)) fullShare y6)

/-- What it leaves. -/
def bodyPost (c : Dev nD) (t : Fin cfg0.N) (d2 : Vec F S768x8192 .fp8e4m3) (d3 : Vec F S1x768 .f32) : sProp 𝕄 :=
  iprop(PhiS m c (t.val + 1) ∗ (rdat m c).owesAt () t.castSucc
    ∗ owns (c : Thread nD τ) (win0_0.stage (cfg0.slots t 0)) fullShare (xIn m c)
    ∗ owns (c : Thread nD τ) (win0_1.stage (cfg0.slots t 1)) fullShare (labIn m c)
    ∗ owns (c : Thread nD τ) (win0_2.stage (cfg0.slots t 2)) fullShare (wIn m c t d2)
    ∗ owns (c : Thread nD τ) (win0_3.stage (cfg0.slots t 3)) fullShare (wsIn m c t d3)
    ∗ (∃ X, ⌜t.val = 49 → ∃ s, Reach m c 50 s ∧ X = lossOf s⌝ ∗ owns (c : Thread nD τ) (win0_4.stage (cfg0.slots t 4)) fullShare X)
    ∗ (∃ X, ⌜X = codesOf (xIn m c)⌝ ∗ owns (c : Thread nD τ) (win0_5.stage (cfg0.slots t 5)) fullShare X)
    ∗ (∃ X, ⌜t.val = 49 → X = scaleOf (xsOf (xIn m c))⌝ ∗ owns (c : Thread nD τ) (win0_6.stage (cfg0.slots t 6)) fullShare X))

set_option maxHeartbeats 3200000 in
/-- The body at any point. -/
theorem sound_body (c : Dev nD) (t : Fin cfg0.N) (y4 : Vec F S384x1 .f32) (y5 : Vec F S384x8192 .fp8e4m3) (y6 : Vec F S384x1 .f32) (d2 : Vec F S768x8192 .fp8e4m3) (d3 : Vec F S1x768 .f32)
    (h5 : t.val ≠ 0 → y5 = codesOf (xIn m c)) :
    bodyPre m c t y4 y5 y6 d2 d3 ⊢ wp frame (wpE (defs₀ (F := F)) Variants.none c none) Set.univ (bodyAt0 t) (fun _ => bodyPost m c t d2 d3) := by
  unfold bodyPre bodyPost bodyAt0
  have hN : t.val < 50 := lt_of_lt_of_eq t.isLt (show cfg0.N = 50 from N_0)
  rw [PhiS_pos m c (t.val + 1) (Nat.succ_ne_zero _)]; unfold held
  by_cases h0 : t.val = 0
  · rw [show PhiS m c t.val = Pipeline.ΦA spec0 c from by rw [h0]; rfl, PhiA0_eq]
    iintro ⟨⟨⟨⟨%e0, S0⟩, ⟨%e1, S1⟩, ⟨%e2, S2⟩, ⟨%e3, S3⟩, ⟨%e4, S4⟩, ⟨%e5, S5⟩⟩, Hg⟩, Ho, H0, H1, H2, H3, H4, H5, H6⟩
    iapply (runA c (grid0.coords t) _ _ _ _ _ _ _ _ _ _ _ _ _ _ _ _ _ _ _ _ _ _ _ _ _ _ ((hcond0_0 t).mpr (by omega)) (fun h => by have := (hcond0_1 t).mp h; omega) _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, S0, S1, S2, S3, S4, S5⟩
    isplitl [S0 S1 S2 S3 S4 S5 Hg]
    · iexists (stStep (grid0.coords t) (x8of (xIn m c)) (xsOf (xIn m c)) (labIn m c) (wIn m c t d2) (wsIn m c t d3) stInit)
      isplitr
      · ipureintro; rw [h0]; exact Reach_step m c t _ h0 d2 d3 stInit (show Reach m c 0 stInit from rfl)
      isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; intro h; omega
    isplitl [H5]
    · iexists _; isplitr; swap; · iexact H5
      ipureintro; rfl
    iexists _; isplitr; swap; · iexact H6
    ipureintro; intro h; omega
  · by_cases h1 : t.val = 49
    · rw [PhiS_pos m c t.val h0]; unfold held
      iintro ⟨⟨%s, %hs, ⟨⟨S0, S1, S2, S3, S4, S5⟩, Hg⟩⟩, Ho, H0, H1, H2, H3, H4, H5, H6⟩
      iapply (runC c (grid0.coords t) _ _ _ _ _ _ _ _ _ _ _ _ _ _ _ _ _ _ _ _ _ _ _ _ _ _ (fun h => by have := (hcond0_0 t).mp h; omega) ((hcond0_1 t).mpr (by omega)) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · iexists (stStep (grid0.coords t) (x8of (xIn m c)) (xsOf (xIn m c)) (labIn m c) (wIn m c t d2) (wsIn m c t d3) s)
        isplitr
        · ipureintro; exact Reach_step m c t _ rfl d2 d3 s hs
        isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro; intro _; have h := Reach_step m c t _ rfl d2 d3 s hs; have e : t.val + 1 = 50 := by omega
        rw [e] at h; exact ⟨_, h, rfl⟩
      isplitl [H5]
      · iexists _; isplitr; swap; · iexact H5
        ipureintro; exact h5 h0
      iexists _; isplitr; swap; · iexact H6
      ipureintro; intro _; rfl
    · rw [PhiS_pos m c t.val h0]; unfold held
      iintro ⟨⟨%s, %hs, ⟨⟨S0, S1, S2, S3, S4, S5⟩, Hg⟩⟩, Ho, H0, H1, H2, H3, H4, H5, H6⟩
      iapply (runB c (grid0.coords t) _ _ _ _ _ _ _ _ _ _ _ _ _ _ _ _ _ _ _ _ _ _ _ _ _ _ (fun h => by have := (hcond0_0 t).mp h; omega) (fun h => by have := (hcond0_1 t).mp h; omega) _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · iexists (stStep (grid0.coords t) (x8of (xIn m c)) (xsOf (xIn m c)) (labIn m c) (wIn m c t d2) (wsIn m c t d3) s)
        isplitr
        · ipureintro; exact Reach_step m c t _ rfl d2 d3 s hs
        isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro; intro h; omega
      isplitl [H5]
      · iexists _; isplitr; swap; · iexact H5
        ipureintro; exact h5 h0
      iexists _; isplitr; swap; · iexact H6
      ipureintro; intro h; omega

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body obligation of the pipeline's proof data. -/
theorem body_obligation (c : Dev nD) : (rdat (F := F) m c).BodyObligation (defs₀ (F := F)) Variants.none () Set.univ := fun t Y hY => by
  obtain ⟨d2, h2⟩ := finds2 m c t _ (hY 2)
  obtain ⟨d3, h3⟩ := finds3 m c t _ (hY 3)
  have h0 := finds0 m c t _ (hY 0)
  have h1 := finds1 m c t _ (hY 1)
  rw [bigSep_W0, bigSep_W0, defs₀_row]
  refine triple_restated (sound_body m c t (Y 4) (Y 5) (Y 6) d2 d3 (fun ht => finds5 m c t ht _ (hY 5))) rfl ?_ fun _ => ?_
  · rw [h0, h1, h2, h3]; exact .rfl
  · unfold bodyPost; rw [show (rdat m c).Φ t.succ = PhiS m c (t.val + 1) from rfl]
    iintro ⟨HΦ, Ho, H0, H1, H2, H3, H4, H5, H6⟩
    isplitl [HΦ]; · iexact HΦ
    isplitl [Ho]; · iexact Ho
    isplitl [H0]; · iexists _; isplitr; swap; (· iexact H0); ipureintro; exact h0.symm
    isplitl [H1]; · iexists _; isplitr; swap; (· iexact H1); ipureintro; exact h1.symm
    isplitl [H2]; · iexists _; isplitr; swap; (· iexact H2); ipureintro; exact h2.symm
    isplitl [H3]; · iexists _; isplitr; swap; (· iexact H3); ipureintro; exact h3.symm
    isplitl [H4]; · iexact H4
    isplitl [H5]; · iexact H5
    iexact H6

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = PhiS m c cfg0.N from rfl, PhiS_pos m c _ (by have : cfg0.N = 50 := N_0; omega), PhiA0_eq]; unfold held
  iintro ⟨%s, -, ⟨⟨S0, S1, S2, S3, S4, S5⟩, Hg⟩⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

/-! ## The run -/

set_option backward.isDefEq.respectTransparency.types false in
/-- Every execution ends, every array holds something the proof data allow, everything else is as it was, and every semaphore is at zero. -/
theorem run_rel : θ_run defs (onTc (τ := τ) (main (F := F))) (s₀ m ρ) (fun r => RDat.FramePost (cfgs 0) (fun c => rdat m c) (V m) r ∧ r.2.sem = fun _ => 0) :=
  RDat.θ_run_frame_track cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := rA_eq m) (hin := hin m) (hout := hout m)
    (Q' := _) (hQ' := fun _ h => h)

/-- Every execution ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 2 rfl).trans ((rA_eq m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_rel m ρ)

end Cert.Kernel.Gen

end
-- ==== Proof.KVal.lean ====
/- What the kernel's three results hold after its run. -/
module

public import proofs.«01_k».proof.Proof.Run
public import Idealize.ShloMosaic.Lib.Pipeline.ArrRel
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.SL Idealize.SL.RA Idealize.SL.BI
open Idealize.ShloMosaic.Pipeline (Window Clip RDat Dat)

variable (m : (ℓ : Loc nD τ sig) → Buf (Elt Ideal) ℓ) (ρ : Dev nD → PrngReg)

/-- The last point writes each result whole. -/
theorem whole4 (t : Fin cfg0.N) (ht : t.val = 49) : (cfg0.win 4).WholeAt t :=
  ⟨(flush0_4 t).mpr (by omega), fun t' h => Fin.ext (by
    have := (flush0_4 t').mp h
    have hN : t'.val < 50 := Nat.lt_of_lt_of_eq t'.isLt N_0
    omega), fun a => by
    match a with
    | ⟨0, _⟩ => exact ⟨rfl, rfl⟩
    | ⟨1, _⟩ => exact ⟨rfl, rfl⟩⟩
theorem whole5 (t : Fin cfg0.N) (ht : t.val = 49) : (cfg0.win 5).WholeAt t :=
  ⟨(flush0_5 t).mpr (by omega), fun t' h => Fin.ext (by
    have := (flush0_5 t').mp h
    have hN : t'.val < 50 := Nat.lt_of_lt_of_eq t'.isLt N_0
    omega), fun a => by
    match a with
    | ⟨0, _⟩ => exact ⟨rfl, rfl⟩
    | ⟨1, _⟩ => exact ⟨rfl, rfl⟩⟩
theorem whole6 (t : Fin cfg0.N) (ht : t.val = 49) : (cfg0.win 6).WholeAt t :=
  ⟨(flush0_6 t).mpr (by omega), fun t' h => Fin.ext (by
    have := (flush0_6 t').mp h
    have hN : t'.val < 50 := Nat.lt_of_lt_of_eq t'.isLt N_0
    omega), fun a => by
    match a with
    | ⟨0, _⟩ => exact ⟨rfl, rfl⟩
    | ⟨1, _⟩ => exact ⟨rfl, rfl⟩⟩

/-- The last point. -/
def ptL : Fin cfg0.N := ⟨49, by rw [show cfg0.N = 50 from N_0]; omega⟩
theorem ptL_val : ptL.val = 49 := rfl
attribute [irreducible] ptL

/-- The three results after the run: the loss of some running values that all the points may leave, the codes, and the scales. -/
def Ends (r : PUnit × MemSt nD τ sig (Elt Ideal)) (c : Dev nD) : Prop :=
  (∃ s, Reach m c 50 s ∧ r.2.mem ((c : Thread nD τ).loc main_v3_0) = lossOf s)
  ∧ r.2.mem ((c : Thread nD τ).loc main_v3_1) = codesOf (xIn m c)
  ∧ r.2.mem ((c : Thread nD τ).loc main_v3_2) = scaleOf (xsOf (xIn m c))

theorem ends (r : PUnit × MemSt nD τ sig (Elt Ideal)) (h : RDat.FramePost (cfgs 0) (fun c => rdat m c) (V m) r) (c : Dev nD) : Ends m r c := by
  obtain ⟨after, hL, hA⟩ := h.exists_exact c
  refine ⟨?_, ?_, ?_⟩
  · obtain ⟨Y, -, hX⟩ := hL 4 ptL (whole4 ptL ptL_val).1
    rw [rafter_eq] at hX
    obtain ⟨s, hs, e⟩ := hX ptL_val
    refine ⟨s, hs, (hA 4).trans ?_⟩
    refine Dat.arrAt_eq_of_after_last _ 4 ptL (whole4 ptL ptL_val) (lossOf s) ?_
    intro j
    exact congrFun e j
  · obtain ⟨Y, -, hX⟩ := hL 5 ptL (whole5 ptL ptL_val).1
    rw [rafter_eq] at hX
    refine (hA 5).trans ?_
    refine Dat.arrAt_eq_of_after_last _ 5 ptL (whole5 ptL ptL_val) (codesOf (xIn m c)) ?_
    intro j
    exact congrFun hX j
  · obtain ⟨Y, -, hX⟩ := hL 6 ptL (whole6 ptL ptL_val).1
    rw [rafter_eq] at hX
    refine (hA 6).trans ?_
    refine Dat.arrAt_eq_of_after_last _ 6 ptL (whole6 ptL ptL_val) (scaleOf (xsOf (xIn m c))) ?_
    intro j
    exact congrFun (hX ptL_val) j

/-- Every execution ends with the results as `Ends` says. -/
theorem run_ends : θ_run defs (onTc (τ := τ) (main (F := Ideal))) ⟨m, fun _ => 0, ρ⟩ (fun r => ∀ c, Ends m r c) :=
  (θ_run defs _ _).mono (fun r h c => ends m r h.1 c) (run_rel m ρ)

end Cert.KernelIdeal.Gen

end
-- ==== Proof.RVal.lean ====
/- What the reference's three results hold after its run. -/
module

public import proofs.«01_k».proof.Proof.Gen.ReferenceIdeal.Frame
public import Idealize.ShloMosaic.Lib.Pipeline.ValueKit
public import Idealize.ShloMosaic.Lib.VecWindow

@[expose] public section

set_option maxRecDepth 16384

noncomputable section

namespace Cert.ReferenceIdeal.Gen

open Idealize.ShloMosaic Idealize.ShloMosaic.TcCoe Idealize.SL.Sem
open Idealize.SL Idealize.SL.RA Idealize.SL.BI
open Idealize.ShloMosaic.Pipeline (Window Clip Dat)

variable (m : (ℓ : Loc nD τ sig) → Buf (Elt Ideal) ℓ) (ρ : Dev nD → PrngReg) (c : Dev nD)

/-- The arguments, as launched. -/
def b0 : Vec Ideal S1x384x8192 .bf16 := m ((c : Thread nD τ).loc main_arg0)
def b1 : Vec Ideal S38016x8192 .fp8e4m3 := m ((c : Thread nD τ).loc main_arg1)
def b2 : Vec Ideal S38016x1 .f32 := m ((c : Thread nD τ).loc main_arg2)
def b3 : Vec Ideal S1x384 .i32 := m ((c : Thread nD τ).loc main_arg3)

/-- The one point's blocks are the arguments whole. -/
theorem iblk0_eq : iblk m c 0 t0_0 = b0 m c := by
  funext j
  show V m c main_arg0 ((win0_0.rect t0_0).emb j) = _
  rw [V_main_arg0]
  refine congrArg (b0 m c) (funext fun a => Fin.ext ?_)
  rw [Rect.emb_apply]
  match a with
  | ⟨0, _⟩ => show 0 * 1 + 1 * (j 0).val = (j 0).val; omega
  | ⟨1, _⟩ => show 0 * 384 + 1 * (j 1).val = (j 1).val; omega
  | ⟨2, _⟩ => show 0 * 8192 + 1 * (j 2).val = (j 2).val; omega
theorem iblk1_eq : iblk m c 1 t0_0 = b1 m c := by
  funext j
  show V m c main_arg1 ((win0_1.rect t0_0).emb j) = _
  rw [V_main_arg1]
  refine congrArg (b1 m c) (funext fun a => Fin.ext ?_)
  rw [Rect.emb_apply]
  match a with
  | ⟨0, _⟩ => show 0 * 38016 + 1 * (j 0).val = (j 0).val; omega
  | ⟨1, _⟩ => show 0 * 8192 + 1 * (j 1).val = (j 1).val; omega
theorem iblk2_eq : iblk m c 2 t0_0 = b2 m c := by
  funext j
  show V m c main_arg2 ((win0_2.rect t0_0).emb j) = _
  rw [V_main_arg2]
  refine congrArg (b2 m c) (funext fun a => Fin.ext ?_)
  rw [Rect.emb_apply]
  match a with
  | ⟨0, _⟩ => show 0 * 38016 + 1 * (j 0).val = (j 0).val; omega
  | ⟨1, _⟩ => show 0 * 1 + 1 * (j 1).val = (j 1).val; omega
theorem iblk3_eq : iblk m c 3 t0_0 = b3 m c := by
  funext j
  show V m c main_arg3 ((win0_3.rect t0_0).emb j) = _
  rw [V_main_arg3]
  refine congrArg (b3 m c) (funext fun a => Fin.ext ?_)
  rw [Rect.emb_apply]
  match a with
  | ⟨0, _⟩ => show 0 * 1 + 1 * (j 0).val = (j 0).val; omega
  | ⟨1, _⟩ => show 0 * 384 + 1 * (j 1).val = (j 1).val; omega

/-- A whole-block load is the block. -/
theorem ld0 (x : Vec Ideal S1x384x8192 .bf16) : View.ld x r0_0 = x := by
  funext j; exact congrArg x (Rect.emb_unit_full (s := S1x384x8192) _ j)
theorem ld1 (x : Vec Ideal S38016x8192 .fp8e4m3) : View.ld x r0_1 = x := by
  funext j; exact congrArg x (Rect.emb_unit_full (s := S38016x8192) _ j)
theorem ld2 (x : Vec Ideal S38016x1 .f32) : View.ld x r0_2 = x := by
  funext j; exact congrArg x (Rect.emb_unit_full (s := S38016x1) _ j)
theorem ld3 (x : Vec Ideal S1x384 .i32) : View.ld x r0_3 = x := by
  funext j; exact congrArg x (Rect.emb_unit_full (s := S1x384) _ j)

/-- A whole-block store leaves what is stored. -/
theorem canon4 (y : Vec Ideal S384x1 .f32) : View.canon (Val := Elt Ideal) (e := .f32) [⟨r0_4, y⟩] = y := by
  funext j
  have h := View.canon_cons_emb (Val := Elt Ideal) (e := .f32) r0_4 y [] j
  rwa [Rect.emb_unit_full (s := S384x1) _ j] at h
theorem canon5 (y : Vec Ideal S384x8192 .fp8e4m3) : View.canon (Val := Elt Ideal) (e := .fp8e4m3) [⟨r0_5, y⟩] = y := by
  funext j
  have h := View.canon_cons_emb (Val := Elt Ideal) (e := .fp8e4m3) r0_5 y [] j
  rwa [Rect.emb_unit_full (s := S384x8192) _ j] at h
theorem out4 (x0 : Vec Ideal S1x384x8192 .bf16) (x1 : Vec Ideal S38016x8192 .fp8e4m3) (x2 : Vec Ideal S38016x1 .f32) (x3 : Vec Ideal S1x384 .i32) :
    out0_4 x0 x1 x2 x3 = k0_pay1 (F := Ideal) (k0_pay6 (F := Ideal) x0 x1 x2) (k0_pay7 (F := Ideal) x0 x1 x2) (k0_pay8 (F := Ideal) x0 x1 x2) x3 := by
  unfold out0_4
  rw [ld0, ld1, ld2, ld3]
  exact canon4 _
theorem out5 (x0 : Vec Ideal S1x384x8192 .bf16) (x1 : Vec Ideal S38016x8192 .fp8e4m3) (x2 : Vec Ideal S38016x1 .f32) (x3 : Vec Ideal S1x384 .i32) :
    out0_5 x0 x1 x2 x3 = k0_pay5 (F := Ideal) x0 := by
  unfold out0_5
  rw [ld0]
  exact canon5 _
theorem out6 (x0 : Vec Ideal S1x384x8192 .bf16) (x1 : Vec Ideal S38016x8192 .fp8e4m3) (x2 : Vec Ideal S38016x1 .f32) (x3 : Vec Ideal S1x384 .i32) :
    out0_6 x0 x1 x2 x3 = k0_pay4 (F := Ideal) x0 := by
  unfold out0_6
  rw [ld0]
  exact canon4 _

/-- The one point writes each result whole. -/
theorem whole4 : (cfg0.win 4).WholeAt t0_0 := by decide +kernel
theorem whole5 : (cfg0.win 5).WholeAt t0_0 := by decide +kernel
theorem whole6 : (cfg0.win 6).WholeAt t0_0 := by decide +kernel

/-- The three results after the run: the loss, the codes and the scales that the payloads compute from the arguments. -/
def Ends (r : PUnit × MemSt nD τ sig (Elt Ideal)) : Prop :=
  r.2.mem ((c : Thread nD τ).loc main_v0_0) = k0_pay1 (F := Ideal) (k0_pay6 (F := Ideal) (b0 m c) (b1 m c) (b2 m c)) (k0_pay7 (F := Ideal) (b0 m c) (b1 m c) (b2 m c)) (k0_pay8 (F := Ideal) (b0 m c) (b1 m c) (b2 m c)) (b3 m c)
  ∧ r.2.mem ((c : Thread nD τ).loc main_v0_1) = k0_pay5 (F := Ideal) (b0 m c)
  ∧ r.2.mem ((c : Thread nD τ).loc main_v0_2) = k0_pay4 (F := Ideal) (b0 m c)

theorem ends (r : PUnit × MemSt nD τ sig (Elt Ideal)) (h : Pipeline.FramePost cfgs (dats m) 0 (V m) r) : Ends m c r := by
  refine ⟨((h c).1 4).trans ?_, ((h c).1 5).trans ?_, ((h c).1 6).trans ?_⟩
  · refine Dat.arrAt_eq_of_after_last _ 4 t0_0 whole4 _ ?_
    intro j
    refine (congrFun (after0_4 m c t0_0) j).trans ?_
    rw [iblk0_eq, iblk1_eq, iblk2_eq, iblk3_eq, out4]
    rfl
  · refine Dat.arrAt_eq_of_after_last _ 5 t0_0 whole5 _ ?_
    intro j
    refine (congrFun (after0_5 m c t0_0) j).trans ?_
    rw [iblk0_eq, iblk1_eq, iblk2_eq, iblk3_eq, out5]
    rfl
  · refine Dat.arrAt_eq_of_after_last _ 6 t0_0 whole6 _ ?_
    intro j
    refine (congrFun (after0_6 m c t0_0) j).trans ?_
    rw [iblk0_eq, iblk1_eq, iblk2_eq, iblk3_eq, out6]
    rfl

/-- Every execution ends with the results as `Ends` says. -/
theorem run_ends : θ_run defs (onTc (τ := τ) (main (F := Ideal))) ⟨m, fun _ => 0, ρ⟩ (fun r => ∀ c, Ends m c r) :=
  (θ_run defs _ _).mono (fun r h c => ends m c r h) (run_main m ρ)

end Cert.ReferenceIdeal.Gen

end
-- ==== Proof.Blocks.lean ====
/- The kernel's inputs, read off the arguments at an index. -/
module

public import proofs.«01_k».proof.Proof.Run
public import Idealize.ShloMosaic.Lib.ValueLayout
public import Idealize.ShloMosaic.Lib.ValueLayoutCasts
public import Idealize.ShloMosaic.Lib.ValueIdx

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI
open Idealize.ShloMosaic.Pipeline (Window Clip)

variable (m : (ℓ : Loc nD τ sig) → Buf (Elt Ideal) ℓ) (c : Dev nD)

/-- The arguments, as launched. -/
def a0 : S1x384x8192.Idx → EReal := m ((c : Thread nD τ).loc main_arg0)
def a1 : S38016x8192.Idx → EReal := m ((c : Thread nD τ).loc main_arg1)
def a2 : S38016x1.Idx → EReal := m ((c : Thread nD τ).loc main_arg2)
def a3 : S1x384.Idx → BitVec 32 := m ((c : Thread nD τ).loc main_arg3)

/-- The host's reshapes of the arguments. -/
theorem V_v0 : (V m c main_v0 : S384x8192.Idx → EReal) = shapeCast S384x8192 (a0 m c) shapeCasts_S1x384x8192_S384x8192 := by
  unfold V hostOps0
  simp only [StableHlo.after_cons, StableHlo.after_nil]
  rw [StableHlo.reshape_result_ne' _ _ _ _ _ (by decide), StableHlo.reshape_result_ne' _ _ _ _ _ (by decide), StableHlo.reshape_result']
  rfl
theorem V_v1 : (V m c main_v1 : S384x1.Idx → BitVec 32) = shapeCast S384x1 (a3 m c) shapeCasts_S1x384_S384x1 := by
  unfold V hostOps0
  simp only [StableHlo.after_cons, StableHlo.after_nil]
  rw [StableHlo.reshape_result_ne' _ _ _ _ _ (by decide), StableHlo.reshape_result']
  rw [StableHlo.reshape_result_ne' _ _ _ _ _ (by decide)]
  rfl
theorem V_v2 : (V m c main_v2 : S1x38016.Idx → EReal) = shapeCast S1x38016 (a2 m c) shapeCasts_S38016x1_S1x38016 := by
  unfold V hostOps0
  simp only [StableHlo.after_cons, StableHlo.after_nil]
  rw [StableHlo.reshape_result']
  rw [StableHlo.reshape_result_ne' _ _ _ _ _ (by decide), StableHlo.reshape_result_ne' _ _ _ _ _ (by decide)]
  rfl

/-- A column reshaped to a row. -/
theorem shapeCast_a1_1a_apply {α : Type} {a : ℕ} (x : (⟨2, ![a, 1]⟩ : Shape).Idx → α) (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    simp [hu])
/-- A row reshaped to a column. -/
theorem shapeCast_1a_a1_apply {α : Type} {a : ℕ} (x : (⟨2, ![1, a]⟩ : Shape).Idx → α) (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    simp [hu])

/-- What each window's block holds, at an index of the array. -/
theorem iblk0_apply (j : S384x8192.Idx) : iblk m c 0 pt0 j = V m c main_v0 ((win0_0.rect pt0).emb j) := rfl
theorem iblk1_apply (j : S384x1.Idx) : iblk m c 1 pt0 j = V m c main_v1 ((win0_1.rect pt0).emb j) := rfl
theorem iblk2_apply (t : Fin cfg0.N) (j : (win0_2.xblock (grid0.coords t)).Idx) : iblk m c 2 t j = V m c main_arg1 ((win0_2.rect t).emb j) := rfl
theorem iblk3_apply (t : Fin cfg0.N) (j : (win0_3.xblock (grid0.coords t)).Idx) : iblk m c 3 t j = V m c main_v2 ((win0_3.rect t).emb j) := rfl

theorem xIn_apply (p : Fin 384) (d : Fin 8192) : xIn m c (ix2 p d) = a0 m c (ix3 (0 : Fin 1) p d) := by
  unfold xIn
  rw [iblk0_apply]
  have e : (win0_0.rect pt0).emb (ix2 p d) = (ix2 p d : S384x8192.Idx) := by
    funext a
    apply Fin.ext
    match a with
    | ⟨0, _⟩ => rw [Rect.emb_apply]; show 0 * 384 + 1 * p.val = p.val; omega
    | ⟨1, _⟩ => rw [Rect.emb_apply]; show 0 * 8192 + 1 * d.val = d.val; omega
  rw [e, V_v0]
  exact shapeCast_1ab_ab_apply _ _ p d

theorem labIn_apply (p : Fin 384) : labIn m c (ix2 p (0 : Fin 1)) = a3 m c (ix2 (0 : Fin 1) p) := by
  unfold labIn
  rw [iblk1_apply]
  have e : (win0_1.rect pt0).emb (ix2 p (0 : Fin 1)) = (ix2 p (0 : Fin 1) : S384x1.Idx) := by
    funext a
    apply Fin.ext
    match a with
    | ⟨0, _⟩ => rw [Rect.emb_apply]; show 0 * 384 + 1 * p.val = p.val; omega
    | ⟨1, _⟩ => rw [Rect.emb_apply]; show 0 * 1 + 1 * 0 = 0; omega
  rw [e, V_v1]
  exact shapeCast_1a_a1_apply _ _ p 0

/-- A cut block reaches to the array's end. -/
theorem extent_of (ix k d j : ℕ) (hj : j < k) (h : ix * k + j < d) : j < (Clip.of ix k d).extent k := by
  unfold Clip.of
  split
  · exact hj
  · show j < d - ix * k
    omega

/-- A grid coordinate as a word, read back. -/
theorem coord_word (t : Fin cfg0.N) : (BitVec.ofNat 32 (grid0.coords t 0).val).toNat = t.val := by
  have ht : t.val < 50 := Nat.lt_of_lt_of_eq t.isLt N_0
  have e0 : (grid0.coords t 0).val = t.val / 1 % 50 := Pipeline.Grid.coords_val t 0 (by decide) rfl
  rw [BitVec.toNat_ofNat, e0]
  omega

theorem wIn_apply (t : Fin cfg0.N) (d : Vec Ideal S768x8192 .fp8e4m3) (r : Fin 768) (e : Fin 8192) (v : Fin 38016) (hv : v.val = 768 * t.val + r.val) :
    wIn m c t d (ix2 r e) = a1 m c (ix2 v e) := by
  have hc := coord_word t
  have hmv : win0_2.moved (grid0.coords t) (ix2 r e) = true := (win0_2.moved_iff _ _).mpr fun a => by
    match a with
    | ⟨0, _⟩ =>
      show r.val < (Clip.of (BitVec.ofNat 32 (grid0.coords t 0).val).toNat 768 38016).extent 768
      exact extent_of _ _ _ _ r.isLt (by rw [hc]; omega)
    | ⟨1, _⟩ =>
      show e.val < (Clip.of 0 8192 8192).extent 8192
      exact extent_of _ _ _ _ e.isLt (by omega)
  unfold wIn
  show win0_2.fill (grid0.coords t) d (iblk m c 2 t) (ix2 r e) = _
  unfold Window.fill
  rw [dif_pos hmv, iblk2_apply, V_main_arg1]
  refine congrArg (a1 m c) (funext fun a => Fin.ext ?_)
  match a with
  | ⟨0, _⟩ =>
    rw [Rect.emb_apply]
    show (BitVec.ofNat 32 (grid0.coords t 0).val).toNat * 768 + 1 * r.val = v.val
    rw [hc]; omega
  | ⟨1, _⟩ =>
    rw [Rect.emb_apply]
    show 0 * 8192 + 1 * e.val = e.val
    omega

theorem wsIn_apply (t : Fin cfg0.N) (d : Vec Ideal S1x768 .f32) (r : Fin 768) (v : Fin 38016) (hv : v.val = 768 * t.val + r.val) :
    wsIn m c t d (ix2 (0 : Fin 1) r) = a2 m c (ix2 v (0 : Fin 1)) := by
  have hc := coord_word t
  have hmv : win0_3.moved (grid0.coords t) (ix2 (0 : Fin 1) r) = true := (win0_3.moved_iff _ _).mpr fun a => by
    match a with
    | ⟨0, _⟩ =>
      show 0 < (Clip.of 0 1 1).extent 1
      exact extent_of _ _ _ _ (by omega) (by omega)
    | ⟨1, _⟩ =>
      show r.val < (Clip.of (BitVec.ofNat 32 (grid0.coords t 0).val).toNat 768 38016).extent 768
      exact extent_of _ _ _ _ r.isLt (by rw [hc]; omega)
  unfold wsIn
  show win0_3.fill (grid0.coords t) d (iblk m c 3 t) (ix2 (0 : Fin 1) r) = _
  unfold Window.fill
  rw [dif_pos hmv, iblk3_apply]
  refine Eq.trans ?_ (shapeCast_a1_1a_apply (a2 m c) shapeCasts_S38016x1_S1x38016 0 v)
  rw [V_v2]
  refine congrArg (shapeCast S1x38016 (a2 m c) shapeCasts_S38016x1_S1x38016) (funext fun a => Fin.ext ?_)
  match a with
  | ⟨0, _⟩ =>
    rw [Rect.emb_apply]
    show 0 * 1 + 1 * 0 = 0
    omega
  | ⟨1, _⟩ =>
    rw [Rect.emb_apply]
    show (BitVec.ofNat 32 (grid0.coords t 0).val).toNat * 768 + 1 * r.val = v.val
    rw [hc]; omega

end Cert.KernelIdeal.Gen

end
-- ==== Proof.Ops.lean ====
/- Operations on two-axis values read at an index. -/
module

public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Ops

open Idealize.ShloMosaic Idealize.ShloMosaic.ValueIdx
open scoped BigOperators

/-- A column broadcast along rows. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- A column's only entries, listed along one axis. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The source index of a reduction along the second axis. -/
theorem lift_ix1 {m n : ℕ} (h : (⟨2, ![m, n]⟩ : Shape).Reduces [1] ⟨1, ![m]⟩) (p : Fin m) (k : Fin ((⟨2, ![m, n]⟩ : Shape).size 1)) :
    h.lift (ix1 p) k = ix2 p (⟨k.val, k.isLt⟩ : Fin n) := by
  funext c
  apply Fin.ext
  rw [h.lift_val]
  match c with
  | ⟨0, _⟩ => rfl
  | ⟨1, _⟩ => rfl

/-- A row's sum. -/
theorem rowSum_apply {m n : ℕ} {φ : FTy} (src : FVec Ideal ⟨2, ![m, n]⟩ φ) (acc : BitVec φ.bits) (h : (⟨2, ![m, n]⟩ : Shape).Reduces [1] ⟨1, ![m]⟩)
    (hφ : FKind.Formats φ) (hacc : acc = FKind.add.neutral φ hφ) (p : Fin m) :
    multiReduction .add [1] ⟨1, ![m]⟩ src acc h hφ hacc (ix1 p) = ∑ k : Fin n, src (ix2 p k) := by
  rw [Ideal.multiReduction_add_single]
  exact Finset.sum_congr rfl fun k _ => congrArg src (lift_ix1 h p k)

/-- A row's maximum, from minus infinity. -/
theorem rowMax_apply {m n : ℕ} {φ : FTy} (src : FVec Ideal ⟨2, ![m, n]⟩ φ) (acc : BitVec φ.bits) (h : (⟨2, ![m, n]⟩ : Shape).Reduces [1] ⟨1, ![m]⟩)
    (hφ : FKind.Formats φ) (hacc : acc = FKind.maximumf.neutral φ hφ) (hb : Ideal.ofBits φ acc = ⊥) (p : Fin m) :
    multiReduction .maximumf [1] ⟨1, ![m]⟩ src acc h hφ hacc (ix1 p) = (Finset.univ : Finset (Fin n)).sup fun k => src (ix2 p k) := by
  rw [Ideal.multiReduction_maximumf_single]
  have e : (src ∘ h.lift (ix1 p)) = fun k : Fin n => src (ix2 p k) := funext fun k => congrArg src (lift_ix1 h p k)
  rw [e, Ideal.ofBits_def, hb]
  rfl

/-- Minus infinity, in the two formats. -/
theorem ofBits_bot_f32 : Ideal.ofBits .f32 0xFF800000#32 = ⊥ := by simp [Ideal.ofBits, Ideal.ieee]
theorem ofBits_bot_bf16 : Ideal.ofBits .bf16 0xFF80#16 = ⊥ := by simp [Ideal.ofBits, Ideal.ieee]

/-- A product of rows into zero. -/
theorem matmul_zero_apply {M K N : ℕ} {φ₁ φ₂ : FTy} (prec : Option ContractPrecision) (D : DotDims ⟨2, ![M, K]⟩ ⟨2, ![N, K]⟩ ⟨2, ![M, N]⟩) (hD : D = DotDims.transposedRhs M K N)
    (lhs : FVec Ideal ⟨2, ![M, K]⟩ φ₁) (rhs : FVec Ideal ⟨2, ![N, K]⟩ φ₂) (r : Fin M) (c : Fin N) :
    matmul D prec lhs rhs (constant ⟨2, ![M, N]⟩ .f32 0x00000000#32) (ix2 r c) = ∑ k : Fin K, lhs (ix2 r k) * rhs (ix2 c k) := by
  subst hD
  show FloatOps.matmul (DotDims.transposedRhs M K N) prec lhs rhs (constant ⟨2, ![M, N]⟩ .f32 0x00000000#32) (ix2 r c) = _
  rw [Ideal.matmul_transposedRhs_apply]
  show Ideal.ofBits .f32 0x00000000#32 + _ = _
  rw [Ideal.ofBits_zero_f32, zero_add]

end Cert.Ops

end
-- ==== Proof.Tile.lean ====
/- What one grid point adds to the four running rows, read at a row and a lane. -/
module

public import proofs.«01_k».proof.Proof.Step
public import proofs.«01_k».proof.Proof.Ops

@[expose] public section

set_option maxRecDepth 16384

noncomputable section

namespace Cert.KernelIdeal.Gen

open Idealize.ShloMosaic Idealize.ShloMosaic.ValueIdx
open scoped BigOperators

/-- An exponential at an index. -/
theorem exp_apply {s : Shape} {φ : FTy} (a : FVec Ideal s φ) (i : s.Idx) : exp a i = Ideal.exp (a i) := rfl

/-- The masking constant is minus infinity. -/
theorem named_mask : (Named.named (F := Ideal) κ "mask" 0xFF61B1E6#32 : Ideal .f32) = ⊥ :=
  IdealRules.named_const.ideal_named_scalar _ _ _ _ rfl

section Point
variable (i : grid0.Coords) (x8 : Vec Ideal S384x8192 .fp8e4m3) (xs : Vec Ideal S384x128 .f32) (x1 : Vec Ideal S384x1 .i32) (x2 : Vec Ideal S768x8192 .fp8e4m3) (x3 : Vec Ideal S1x768 .f32)

/-- The logit of row `p` and column `c` of the point's block, by lane `σ`'s copy of the row's scale. -/
def tl (p : Fin 384) (σ : Fin 128) (c : Fin 768) : EReal :=
  ((∑ d : Fin 8192, x8 (ix2 p d) * x2 (ix2 c d)) * xs (ix2 p σ)) * x3 (ix2 (0 : Fin 1) c)

/-- Column `128 k + σ` of the block. -/
def col (k : Fin 6) (σ : Fin 128) : Fin 768 := ⟨128 * k.val + σ.val, by omega⟩

/-- Whether the column is a class. -/
def inn (k : Fin 6) (σ : Fin 128) : BitVec 1 :=
  IntOp.cmpi .slt (BitVec.ofNat 32 σ.val) (Scalar.subi 38016#32 (Scalar.addi (Scalar.muli (gw i) 768#32) (BitVec.ofNat 32 (128 * k.val))))
/-- Whether the column is the row's label. -/
def isl (k : Fin 6) (p : Fin 384) (σ : Fin 128) : BitVec 1 :=
  IntOp.cmpi .eq (IntOp.addi (BitVec.ofNat 32 σ.val) (Scalar.addi (Scalar.muli (gw i) 768#32) (BitVec.ofNat 32 (128 * k.val)))) (x1 (ix2 p (0 : Fin 1)))

theorem pay33_apply (p : Fin 384) (c : Fin 768) : k0_pay33 x8 x2 (ix2 p c) = ∑ d : Fin 8192, x8 (ix2 p d) * x2 (ix2 c d) :=
  Cert.Ops.matmul_zero_apply none dot_S384x8192_S768x8192_S384x768_1_1_0_0_n_n rfl x8 x2 p c

theorem lane_apply (p : Fin 384) (σ : Fin 128) : lane (ix2 p σ) = BitVec.ofNat 32 σ.val := iota_single_apply _ _ _ _ _ _

theorem pay34_apply (p : Fin 384) (σ : Fin 128) (h : S384x1.Broadcasts S384x128) : broadcastTo S384x128 (k0_pay34 (F := Ideal) x1) h (ix2 p σ) = x1 (ix2 p (0 : Fin 1)) := by
  unfold k0_pay34
  rw [shapeCast_self]
  exact Cert.Ops.broadcastTo_a1_ab_apply x1 _ p σ

theorem slice_apply (X : S384x768.Idx → EReal) (o : ℕ) (h : S384x768.Slices ![0, o] S384x128) (p : Fin 384) (σ : Fin 128) (c : Fin 768) (hc : c.val = o + σ.val) :
    extractStridedSlice S384x128 ![0, o] X h (ix2 p σ) = X (ix2 p c) := slice2_axis1_apply o X h p σ c hc

theorem row_apply (v : S1x128.Idx → EReal) (h : S1x128.ShapeCasts S1x128) (h' : S1x128.Broadcasts S384x128) (p : Fin 384) (σ : Fin 128) :
    broadcastTo S384x128 (shapeCast S1x128 v h) h' (ix2 p σ) = v (ix2 (0 : Fin 1) σ) := by
  rw [shapeCast_self]; exact broadcastTo_1b_ab_apply v h' p σ

theorem ws_apply (k : Fin 6) (o : ℕ) (ho : o = 128 * k.val) (inb : ∀ a : Fin 2, (![0, o] : Fin 2 → ℕ) a + S1x128.size a ≤ S1x768.size a) (σ : Fin 128) :
    View.ld x3 (Rect.unit (s := S1x768) ![0, o] S1x128.size inb) (ix2 (0 : Fin 1) σ) = x3 (ix2 (0 : Fin 1) (col k σ)) := by
  subst ho
  show x3 _ = x3 _
  congr 1
  funext a
  apply Fin.ext
  match a with
  | ⟨0, _⟩ => simp [Rect.unit, Rect.emb, ix2]
  | ⟨1, _⟩ => simp [Rect.unit, Rect.emb, ix2, col]

theorem pay35_apply (p : Fin 384) (σ : Fin 128) : k0_pay35 x8 x2 xs (ws0 x3) (ix2 p σ) = tl x8 xs x2 x3 p σ (col 0 σ) := by
  unfold k0_pay35 tl
  simp only [mulf_apply]
  rw [slice_apply _ 0 _ p σ (col 0 σ) (by simp [col]), pay33_apply, row_apply]
  unfold ws0
  rw [ws_apply x3 0 0 rfl]
theorem pay40_apply (p : Fin 384) (σ : Fin 128) : k0_pay40 (k0_pay33 x8 x2) xs (ws1 x3) (ix2 p σ) = tl x8 xs x2 x3 p σ (col 1 σ) := by
  unfold k0_pay40 tl
  simp only [mulf_apply]
  rw [slice_apply _ 128 _ p σ (col 1 σ) (by simp [col]), pay33_apply, row_apply]
  unfold ws1
  rw [ws_apply x3 1 128 rfl]
theorem pay45_apply (p : Fin 384) (σ : Fin 128) : k0_pay45 (k0_pay33 x8 x2) xs (ws2 x3) (ix2 p σ) = tl x8 xs x2 x3 p σ (col 2 σ) := by
  unfold k0_pay45 tl
  simp only [mulf_apply]
  rw [slice_apply _ 256 _ p σ (col 2 σ) (by simp [col]), pay33_apply, row_apply]
  unfold ws2
  rw [ws_apply x3 2 256 rfl]
theorem pay50_apply (p : Fin 384) (σ : Fin 128) : k0_pay50 (k0_pay33 x8 x2) xs (ws3 x3) (ix2 p σ) = tl x8 xs x2 x3 p σ (col 3 σ) := by
  unfold k0_pay50 tl
  simp only [mulf_apply]
  rw [slice_apply _ 384 _ p σ (col 3 σ) (by simp [col]), pay33_apply, row_apply]
  unfold ws3
  rw [ws_apply x3 3 384 rfl]
theorem pay55_apply (p : Fin 384) (σ : Fin 128) : k0_pay55 (k0_pay33 x8 x2) xs (ws4 x3) (ix2 p σ) = tl x8 xs x2 x3 p σ (col 4 σ) := by
  unfold k0_pay55 tl
  simp only [mulf_apply]
  rw [slice_apply _ 512 _ p σ (col 4 σ) (by simp [col]), pay33_apply, row_apply]
  unfold ws4
  rw [ws_apply x3 4 512 rfl]
theorem pay59_apply (p : Fin 384) (σ : Fin 128) : k0_pay59 (k0_pay33 x8 x2) xs (ws5 x3) (ix2 p σ) = tl x8 xs x2 x3 p σ (col 5 σ) := by
  unfold k0_pay59 tl
  simp only [mulf_apply]
  rw [slice_apply _ 640 _ p σ (col 5 σ) (by simp [col]), pay33_apply, row_apply]
  unfold ws5
  rw [ws_apply x3 5 640 rfl]

theorem slt_apply (w : BitVec 32) (p : Fin 384) (σ : Fin 128) :
    cmpi .slt lane (broadcast S384x128 w) (ix2 p σ) = IntOp.cmpi .slt (BitVec.ofNat 32 σ.val) w :=
  congrArg (fun z => IntOp.cmpi .slt z w) (lane_apply p σ)

theorem pay36_apply (p : Fin 384) (σ : Fin 128) : k0_pay36 i (ix2 p σ) = inn i 0 σ := by
  unfold k0_pay36 inn
  rw [show iota .tc S384x128 32 [1] iota_S384x128_d1_w32 = lane from rfl]
  exact slt_apply _ p σ
theorem pay41_apply (p : Fin 384) (σ : Fin 128) : k0_pay41 (gw i) lane (ix2 p σ) = inn i 1 σ := by
  unfold k0_pay41 inn
  exact slt_apply _ p σ
theorem pay46_apply (p : Fin 384) (σ : Fin 128) : k0_pay46 (gw i) lane (ix2 p σ) = inn i 2 σ := by
  unfold k0_pay46 inn
  exact slt_apply _ p σ
theorem pay51_apply (p : Fin 384) (σ : Fin 128) : k0_pay51 (gw i) lane (ix2 p σ) = inn i 3 σ := by
  unfold k0_pay51 inn
  exact slt_apply _ p σ
theorem pay56_apply (p : Fin 384) (σ : Fin 128) : k0_pay56 (gw i) lane (ix2 p σ) = inn i 4 σ := by
  unfold k0_pay56 inn
  exact slt_apply _ p σ
theorem pay60_apply (p : Fin 384) (σ : Fin 128) : k0_pay60 (gw i) lane (ix2 p σ) = inn i 5 σ := by
  unfold k0_pay60 inn
  exact slt_apply _ p σ

/-- The column's logit, minus infinity past the last class. -/
def tm (k : Fin 6) (p : Fin 384) (σ : Fin 128) : EReal := Scalar.select (inn i k σ) (tl x8 xs x2 x3 p σ (col k σ)) ⊥
/-- The column's logit, zero past the last class. -/
def tz (k : Fin 6) (p : Fin 384) (σ : Fin 128) : EReal := Scalar.select (inn i k σ) (tl x8 xs x2 x3 p σ (col k σ)) 0
/-- The column's logit if it is the label's, else zero. -/
def tp (k : Fin 6) (p : Fin 384) (σ : Fin 128) : EReal := Scalar.select (isl i x1 k p σ) (tl x8 xs x2 x3 p σ (col k σ)) 0

theorem maskbc (s : Shape) (j : s.Idx) : broadcast s (Named.named (F := Ideal) κ "mask" 0xFF61B1E6#32 : Ideal .f32) j = (⊥ : EReal) := named_mask
theorem zerobc (s : Shape) (j : s.Idx) : broadcast s (Scalar.ofBits (F := Ideal) .f32 0x00000000#32) j = (0 : EReal) := Ideal.ofBits_zero_f32

theorem pay39_apply (p : Fin 384) (σ : Fin 128) : k0_pay39 (k0_pay35 x8 x2 xs (ws0 x3)) (k0_pay36 i) (ix2 p σ) = tm i x8 xs x2 x3 0 p σ := by
  unfold k0_pay39 tm; rw [select_apply, pay36_apply, pay35_apply, maskbc]
theorem pay43_apply (p : Fin 384) (σ : Fin 128) : k0_pay43 (gw i) (k0_pay33 x8 x2) xs lane (ws1 x3) (ix2 p σ) = tm i x8 xs x2 x3 1 p σ := by
  unfold k0_pay43 tm; rw [select_apply, pay41_apply, pay40_apply, maskbc]
theorem pay49_apply (p : Fin 384) (σ : Fin 128) : k0_pay49 (k0_pay45 (k0_pay33 x8 x2) xs (ws2 x3)) (k0_pay46 (gw i) lane) (ix2 p σ) = tm i x8 xs x2 x3 2 p σ := by
  unfold k0_pay49 tm; rw [select_apply, pay46_apply, pay45_apply, maskbc]
theorem pay53_apply (p : Fin 384) (σ : Fin 128) : k0_pay53 (gw i) (k0_pay33 x8 x2) xs lane (ws3 x3) (ix2 p σ) = tm i x8 xs x2 x3 3 p σ := by
  unfold k0_pay53 tm; rw [select_apply, pay51_apply, pay50_apply, maskbc]
theorem pay58_apply (p : Fin 384) (σ : Fin 128) : k0_pay58 (k0_pay55 (k0_pay33 x8 x2) xs (ws4 x3)) (k0_pay56 (gw i) lane) (ix2 p σ) = tm i x8 xs x2 x3 4 p σ := by
  unfold k0_pay58 tm; rw [select_apply, pay56_apply, pay55_apply, maskbc]
theorem pay63_apply (p : Fin 384) (σ : Fin 128) : k0_pay63 (gw i) (k0_pay33 x8 x2) xs lane (ws5 x3) (ix2 p σ) = tm i x8 xs x2 x3 5 p σ := by
  unfold k0_pay63 tm; rw [select_apply, pay60_apply, pay59_apply, maskbc]

/-- The maximum over six more terms. -/
def max6 (a : EReal) (T : Fin 6 → EReal) : EReal := max (max (max (max (max (max a (T 0)) (T 1)) (T 2)) (T 3)) (T 4)) (T 5)
/-- The sum with six more terms. -/
def add6 (a : EReal) (T : Fin 6 → EReal) : EReal := (((((a + T 0) + T 1) + T 2) + T 3) + T 4) + T 5

theorem m6_apply (mo : Vec Ideal S384x128 .f32) (p : Fin 384) (σ : Fin 128) :
    m6 i x8 xs x2 x3 mo (ix2 p σ) = max6 (mo (ix2 p σ)) fun k => tm i x8 xs x2 x3 k p σ := by
  unfold m6 k0_pay64 max6
  rw [maximumf_apply, maximumf_apply, pay58_apply, pay63_apply]
  unfold m4 k0_pay54
  rw [maximumf_apply, maximumf_apply, pay49_apply, pay53_apply]
  unfold m2 k0_pay44
  rw [maximumf_apply, maximumf_apply, pay39_apply, pay43_apply]

/-- The running maximum. -/
theorem stM_apply (mo : Vec Ideal S384x128 .f32) (p : Fin 384) (σ : Fin 128) :
    stM i x8 xs x2 x3 mo (ix2 p σ) = max6 (mo (ix2 p σ)) fun k => tm i x8 xs x2 x3 k p σ := by
  unfold stM k0_pay1
  rw [shapeCast_self, m6_apply]

/-- The running sum of exponentials. -/
theorem stL_apply (mo lo : Vec Ideal S384x128 .f32) (p : Fin 384) (σ : Fin 128) :
    stL i x8 xs x2 x3 mo lo (ix2 p σ) = add6 (lo (ix2 p σ) * Ideal.exp (mo (ix2 p σ) - max6 (mo (ix2 p σ)) fun k => tm i x8 xs x2 x3 k p σ))
      fun k => Ideal.exp (tm i x8 xs x2 x3 k p σ - max6 (mo (ix2 p σ)) fun k => tm i x8 xs x2 x3 k p σ) := by
  have hm := m6_apply i x8 xs x2 x3 mo p σ
  unfold stL k0_pay2 k0_pay65 k0_pay66 add6
  rw [shapeCast_self]
  simp only [addf_apply, subf_apply, mulf_apply, exp_apply]
  rw [show k0_pay64 (gw i) (k0_pay33 x8 x2) xs lane (m4 i x8 xs x2 x3 mo) (k0_pay55 (k0_pay33 x8 x2) xs (ws4 x3)) (k0_pay56 (gw i) lane) (ws5 x3) = m6 i x8 xs x2 x3 mo from rfl,
    hm, pay39_apply, pay43_apply, pay49_apply, pay53_apply, pay58_apply, pay63_apply]

/-- The running sum of logits. -/
theorem stT_apply (tq : Vec Ideal S384x128 .f32) (p : Fin 384) (σ : Fin 128) :
    stT i x8 xs x2 x3 tq (ix2 p σ) = add6 (tq (ix2 p σ)) fun k => tz i x8 xs x2 x3 k p σ := by
  unfold stT k0_pay3 k0_pay61 k0_pay57 k0_pay47 k0_pay37 add6 tz
  rw [shapeCast_self]
  simp only [addf_apply, select_apply, zerobc, pay35_apply, pay36_apply, pay40_apply, pay41_apply, pay45_apply, pay46_apply, pay50_apply, pay51_apply, pay55_apply, pay56_apply,
    pay59_apply, pay60_apply]

theorem islw_apply (w : BitVec 32) (h : S384x1.Broadcasts S384x128) (p : Fin 384) (σ : Fin 128) :
    cmpi .eq (addi lane (broadcast S384x128 w)) (broadcastTo S384x128 (k0_pay34 (F := Ideal) x1) h) (ix2 p σ)
      = IntOp.cmpi .eq (IntOp.addi (BitVec.ofNat 32 σ.val) w) (x1 (ix2 p (0 : Fin 1))) := by
  show IntOp.cmpi .eq (IntOp.addi (lane (ix2 p σ)) w) (broadcastTo S384x128 (k0_pay34 (F := Ideal) x1) h (ix2 p σ)) = _
  rw [lane_apply, pay34_apply]

/-- The running label logit. -/
theorem stP_apply (po : Vec Ideal S384x128 .f32) (p : Fin 384) (σ : Fin 128) :
    stP i x8 xs x1 x2 x3 po (ix2 p σ) = add6 (po (ix2 p σ)) fun k => tp i x8 xs x1 x2 x3 k p σ := by
  unfold stP k0_pay4 k0_pay62 k0_pay52 k0_pay42 k0_pay38 k0_pay48 add6 tp
  rw [shapeCast_self]
  rw [show iota .tc S384x128 32 [1] iota_S384x128_d1_w32 = lane from rfl]
  simp only [addf_apply, select_apply, zerobc, islw_apply, pay35_apply, pay40_apply, pay45_apply, pay50_apply, pay55_apply, pay59_apply]
  rfl

end Point

end Cert.KernelIdeal.Gen

end
-- ==== Proof.Lse.lean ====
/- The running log-sum-exp over extended reals: a running maximum and a running sum of exponentials are, after any number of steps, the
   maximum and the sum over everything seen. -/
module

public import Idealize.ShloMosaic.PureOps.Ideal.Laws

@[expose] public section

noncomputable section

namespace Cert.Lse

open Idealize.ShloMosaic
open scoped BigOperators

/-- An exponential is not negative. -/
theorem exp_nonneg (x : EReal) : 0 ≤ Ideal.exp x := by
  induction x with
  | bot => simp
  | top => simp
  | coe r => simpa using (Real.exp_pos r).le

/-- A term's exponential below one maximum, rescaled to a larger one, is its exponential below the larger one. -/
theorem exp_shift {t a b : EReal} (h1 : t ≤ a) (h2 : a ≤ b) : Ideal.exp (t - a) * Ideal.exp (a - b) = Ideal.exp (t - b) := by
  induction b with
  | bot =>
    have ha : a = ⊥ := le_bot_iff.1 h2
    have ht : t = ⊥ := le_bot_iff.1 (ha ▸ h1)
    subst ha; subst ht; simp
  | top =>
    have e : ∀ x : EReal, x - ⊤ = ⊥ := fun x => by rw [sub_eq_add_neg, EReal.neg_top, EReal.add_bot]
    rw [e, e, Ideal.exp_bot, mul_zero]
  | coe b =>
    induction a with
    | bot =>
      have ht : t = ⊥ := le_bot_iff.1 h1
      subst ht; simp
    | top => exact absurd h2 (by simp)
    | coe a =>
      induction t with
      | bot => simp
      | top => exact absurd h1 (by simp)
      | coe t =>
        rw [← EReal.coe_sub, ← EReal.coe_sub, ← EReal.coe_sub, Ideal.exp_coe, Ideal.exp_coe, Ideal.exp_coe, ← EReal.coe_mul, ← Real.exp_add]
        congr 2; ring

/-- A factor distributes over a sum of terms that are not negative. -/
theorem sum_mul_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a (Finset.mem_insert_self a s))
      (Finset.sum_nonneg fun i hi => hf i (Finset.mem_insert_of_mem hi)), ih fun i hi => hf i (Finset.mem_insert_of_mem hi)]

/-- A sum of exponentials below one maximum, rescaled to a larger one. -/
theorem rescale {ι : Type} (s : Finset ι) (t : ι → EReal) {a b : EReal} (h1 : ∀ i ∈ s, t i ≤ a) (h2 : a ≤ b) :
    (∑ i ∈ s, Ideal.exp (t i - a)) * Ideal.exp (a - b) = ∑ i ∈ s, Ideal.exp (t i - b) := by
  rw [sum_mul_nonneg s _ _ fun i _ => exp_nonneg _]
  exact Finset.sum_congr rfl fun i hi => exp_shift (h1 i hi) h2

/-- The maximum of the first `n` terms. -/
def top (T : ℕ → EReal) (n : ℕ) : EReal := (Finset.range n).sup T

theorem top_zero (T : ℕ → EReal) : top T 0 = ⊥ := by simp [top]
theorem top_succ (T : ℕ → EReal) (n : ℕ) : top T (n + 1) = max (top T n) (T n) := by
  unfold top; rw [Finset.range_add_one, Finset.sup_insert, sup_comm]
theorem le_top (T : ℕ → EReal) {q n : ℕ} (h : q < n) : T q ≤ top T n := Finset.le_sup (f := T) (Finset.mem_range.2 h)

/-- Six more terms at once: the maximum. -/
theorem top_six (T : ℕ → EReal) (n : ℕ) : top T (6 * (n + 1)) =
    max (max (max (max (max (max (top T (6 * n)) (T (6 * n + 0))) (T (6 * n + 1))) (T (6 * n + 2))) (T (6 * n + 3))) (T (6 * n + 4))) (T (6 * n + 5)) := by
  rw [show 6 * (n + 1) = 6 * n + 0 + 1 + 1 + 1 + 1 + 1 + 1 by ring]
  simp only [top_succ, Nat.add_zero, Nat.add_assoc, Nat.reduceAdd]

/-- Six more terms at once: a sum. -/
theorem sum_six (Z : ℕ → EReal) (n : ℕ) : ∑ q ∈ Finset.range (6 * (n + 1)), Z q =
    (((((∑ q ∈ Finset.range (6 * n), Z q + Z (6 * n + 0)) + Z (6 * n + 1)) + Z (6 * n + 2)) + Z (6 * n + 3)) + Z (6 * n + 4)) + Z (6 * n + 5) := by
  rw [show 6 * (n + 1) = 6 * n + 0 + 1 + 1 + 1 + 1 + 1 + 1 by ring]
  simp only [Finset.sum_range_succ, Nat.add_zero, Nat.add_assoc, Nat.reduceAdd]

/-- Six more terms at once: the sum of exponentials, rescaled to the new maximum. -/
theorem exps_six (T : ℕ → EReal) (n : ℕ) : ∑ q ∈ Finset.range (6 * (n + 1)), Ideal.exp (T q - top T (6 * (n + 1))) =
    ((((((∑ q ∈ Finset.range (6 * n), Ideal.exp (T q - top T (6 * n))) * Ideal.exp (top T (6 * n) - top T (6 * (n + 1)))
      + Ideal.exp (T (6 * n + 0) - top T (6 * (n + 1)))) + Ideal.exp (T (6 * n + 1) - top T (6 * (n + 1))))
      + Ideal.exp (T (6 * n + 2) - top T (6 * (n + 1)))) + Ideal.exp (T (6 * n + 3) - top T (6 * (n + 1))))
      + Ideal.exp (T (6 * n + 4) - top T (6 * (n + 1)))) + Ideal.exp (T (6 * n + 5) - top T (6 * (n + 1))) := by
  rw [rescale (a := top T (6 * n)) (b := top T (6 * (n + 1))) (Finset.range (6 * n)) T (fun i hi => le_top T (Finset.mem_range.1 hi))
    (Finset.sup_mono (Finset.range_mono (by omega : 6 * n ≤ 6 * (n + 1))) : top T (6 * n) ≤ top T (6 * (n + 1)))]
  exact sum_six (fun q => Ideal.exp (T q - top T (6 * (n + 1)))) n

/-- A sum over 128 lanes of `N` terms each is the sum over all `128 N` columns. -/
theorem sum_lanes (G : ℕ → EReal) (N : ℕ) : ∑ j : Fin 128, ∑ q ∈ Finset.range N, G (128 * q + j.val) = ∑ v ∈ Finset.range (128 * N), G v := by
  induction N with
  | zero => simp
  | succ N ih =>
    simp only [Finset.sum_range_succ, Finset.sum_add_distrib]
    rw [ih, show 128 * (N + 1) = 128 * N + 128 by ring, Finset.sum_range_add, Finset.sum_range (fun x => G (128 * N + x))]

/-- A sum over the columns, the ones past the last class zero, is the sum over the classes. -/
theorem sum_cols (G : ℕ → EReal) (h : ∀ v, 38016 ≤ v → v < 38400 → G v = 0) :
    ∑ j : Fin 128, ∑ q ∈ Finset.range 300, G (128 * q + j.val) = ∑ v : Fin 38016, G v.val := by
  rw [sum_lanes, ← Finset.sum_range (fun x => G x), show 128 * 300 = 38016 + 384 by rfl, Finset.sum_range_add,
    Finset.sum_eq_zero (fun x hx => h (38016 + x) (by omega) (by have := Finset.mem_range.1 hx; omega)), add_zero]

/-- A column's logit, minus infinity past the last class. -/
def masked (g : ℕ → EReal) (v : ℕ) : EReal := if v < 38016 then g v else ⊥

/-- The maximum over the lanes of each lane's maximum is the maximum over the classes. -/
theorem top_cols (g : ℕ → EReal) : (Finset.univ : Finset (Fin 128)).sup (fun j => top (fun q => masked g (128 * q + j.val)) 300)
    = (Finset.univ : Finset (Fin 38016)).sup (fun v => g v.val) := by
  apply le_antisymm
  · refine Finset.sup_le fun j _ => Finset.sup_le fun q hq => ?_
    show masked g _ ≤ _
    unfold masked
    split
    · next h => exact Finset.le_sup (f := fun v : Fin 38016 => g v.val) (Finset.mem_univ ⟨_, h⟩)
    · exact bot_le
  · refine Finset.sup_le fun v _ => ?_
    have hv := v.isLt
    have h1 := le_top (fun q => masked g (128 * q + v.val % 128)) (q := v.val / 128) (n := 300) (by omega)
    have e : masked g (128 * (v.val / 128) + v.val % 128) = g v.val := by
      rw [Nat.div_add_mod]; exact if_pos hv
    simp only [e] at h1
    exact h1.trans (Finset.le_sup (f := fun j : Fin 128 => top (fun q => masked g (128 * q + j.val)) 300) (Finset.mem_univ ⟨v.val % 128, Nat.mod_lt _ (by decide)⟩))

/-- The lanes' sums of exponentials, each rescaled to the overall maximum, add up to the sum over the classes. -/
theorem exps_cols (g : ℕ → EReal) (M : EReal) (hM : ∀ j : Fin 128, top (fun q => masked g (128 * q + j.val)) 300 ≤ M) :
    ∑ j : Fin 128, (∑ q ∈ Finset.range 300, Ideal.exp (masked g (128 * q + j.val) - top (fun q => masked g (128 * q + j.val)) 300))
        * Ideal.exp (top (fun q => masked g (128 * q + j.val)) 300 - M)
      = ∑ v : Fin 38016, Ideal.exp (g v.val - M) := by
  rw [Finset.sum_congr rfl fun j _ => rescale (Finset.range 300) (fun q => masked g (128 * q + j.val))
    (fun i hi => le_top (fun q => masked g (128 * q + j.val)) (Finset.mem_range.1 hi)) (hM j)]
  rw [sum_cols (fun v => Ideal.exp (masked g v - M)) fun v h _ => by
    rw [masked, if_neg (by omega)]; simp [sub_eq_add_neg]]
  exact Finset.sum_congr rfl fun v _ => by rw [masked, if_pos v.isLt]

end Cert.Lse

end
-- ==== Proof.Fold.lean ====
/- The running values after any number of points, and the loss made of them. -/
module

public import proofs.«01_k».proof.Proof.Run
public import proofs.«01_k».proof.Proof.Tile
public import proofs.«01_k».proof.Proof.Lse

@[expose] public section

set_option maxRecDepth 16384

noncomputable section

namespace Cert.KernelIdeal.Gen

open Idealize.ShloMosaic Idealize.ShloMosaic.ValueIdx
open scoped BigOperators

/-! ## Column numbers as words -/

theorem toInt_lane : ∀ σ : Fin 128, (BitVec.ofNat 32 σ.val).toInt = (σ.val : ℤ) := by decide +kernel
theorem toInt_room : ∀ q : Fin 300, (38016#32 - BitVec.ofNat 32 (128 * q.val)).toInt = 38016 - 128 * (q.val : ℤ) := by decide +kernel
theorem toInt_past : ∀ r : Fin 384, (BitVec.ofNat 32 (38016 + r.val)).toInt = 38016 + (r.val : ℤ) := by decide +kernel

/-- The word of a tile's first column. -/
theorem base_word : ∀ t : Fin 50, ∀ k : Fin 6, BitVec.ofNat 32 t.val * 768#32 + BitVec.ofNat 32 (128 * k.val) = BitVec.ofNat 32 (128 * (6 * t.val + k.val)) := by decide +kernel

theorem coords_val (t : Fin cfg0.N) : (grid0.coords t 0).val = t.val := by
  have ht : t.val < 50 := Nat.lt_of_lt_of_eq t.isLt N_0
  have e0 : (grid0.coords t 0).val = t.val / 1 % 50 := Pipeline.Grid.coords_val t 0 (by decide) rfl
  omega

theorem inn_word (t : Fin cfg0.N) (k : Fin 6) (σ : Fin 128) : inn (grid0.coords t) k σ
    = BitVec.ofBool (BitVec.slt (BitVec.ofNat 32 σ.val) (38016#32 - (BitVec.ofNat 32 t.val * 768#32 + BitVec.ofNat 32 (128 * k.val)))) := by
  unfold inn gw
  rw [coords_val]
  rfl

theorem isl_word (t : Fin cfg0.N) (x1 : Vec Ideal S384x1 .i32) (k : Fin 6) (p : Fin 384) (σ : Fin 128) : isl (grid0.coords t) x1 k p σ
    = BitVec.ofBool ((BitVec.ofNat 32 σ.val + (BitVec.ofNat 32 t.val * 768#32 + BitVec.ofNat 32 (128 * k.val))) == x1 (ix2 p (0 : Fin 1))) := by
  unfold isl gw
  rw [coords_val]
  rfl

/-- Whether a column is a class, decided. -/
theorem inn_eq (t : Fin cfg0.N) (n : ℕ) (hn : t.val = n) (k : Fin 6) (σ : Fin 128) : inn (grid0.coords t) k σ = BitVec.ofBool (decide (128 * (6 * n + k.val) + σ.val < 38016)) := by
  subst hn
  have ht : t.val < 50 := Nat.lt_of_lt_of_eq t.isLt N_0
  rw [inn_word, base_word ⟨t.val, ht⟩ k]
  refine congrArg BitVec.ofBool ?_
  unfold BitVec.slt
  rw [toInt_lane, toInt_room ⟨6 * t.val + k.val, by omega⟩]
  apply decide_eq_decide.2
  simp only
  omega

/-- Whether a column is the label, decided. -/
theorem isl_eq (t : Fin cfg0.N) (n : ℕ) (hn : t.val = n) (x1 : Vec Ideal S384x1 .i32) (k : Fin 6) (p : Fin 384) (σ : Fin 128) :
    isl (grid0.coords t) x1 k p σ = BitVec.ofBool (decide (BitVec.ofNat 32 (128 * (6 * n + k.val) + σ.val) = x1 (ix2 p (0 : Fin 1)))) := by
  subst hn
  have ht : t.val < 50 := Nat.lt_of_lt_of_eq t.isLt N_0
  rw [isl_word, base_word ⟨t.val, ht⟩ k]
  rw [← BitVec.ofNat_add, Nat.add_comm σ.val]
  congr 1

/-- No column past the last class is a label. -/
theorem past_ne {lab : BitVec 32} (h : IntOp.cmpi .slt lab 38016#32 = 1#1) {v : ℕ} (h1 : 38016 ≤ v) (h2 : v < 38400) : BitVec.ofNat 32 v ≠ lab := by
  rintro rfl
  obtain ⟨r, rfl⟩ : ∃ r, v = 38016 + r := ⟨v - 38016, by omega⟩
  have e := toInt_past ⟨r, by omega⟩
  have h' : BitVec.ofBool (BitVec.slt (BitVec.ofNat 32 (38016 + r)) 38016#32) = 1#1 := h
  unfold BitVec.slt at h'
  rw [e, show (38016#32 : BitVec 32).toInt = 38016 from by decide] at h'
  rw [decide_eq_false (by simp only; omega)] at h'
  exact absurd h' (by decide)

theorem select_ofBool {α : Type} (b : Prop) [Decidable b] (x y : α) : Scalar.select (BitVec.ofBool (decide b)) x y = if b then x else y := by
  by_cases h : b
  · rw [decide_eq_true h, if_pos h]; rfl
  · rw [decide_eq_false h, if_neg h]; rfl

/-! ## The running values -/

/-- A column's logit, zero past the last class. -/
def zeroed (g : ℕ → EReal) (v : ℕ) : EReal := if v < 38016 then g v else 0
/-- A column's logit if it is the label's, else zero. -/
def picked (g : ℕ → EReal) (lab : BitVec 32) (v : ℕ) : EReal := if v < 38016 ∧ BitVec.ofNat 32 v = lab then g v else 0

/-- The logits of a lane's tiles, in order. -/
def lt (g : ℕ → EReal) (σ : Fin 128) (q : ℕ) : EReal := Cert.Lse.masked g (128 * q + σ.val)

/-- What the running values are after `n` points, the logits being `g`. -/
structure Inv (g : Fin 384 → ℕ → EReal) (x1 : Vec Ideal S384x1 .i32) (n : ℕ) (z : St Ideal) : Prop where
  emx : ∀ p σ, z.mx (ix2 p σ) = Cert.Lse.top (lt (g p) σ) (6 * n)
  el : ∀ p σ, z.l (ix2 p σ) = ∑ q ∈ Finset.range (6 * n), Ideal.exp (lt (g p) σ q - Cert.Lse.top (lt (g p) σ) (6 * n))
  es : ∀ p σ, z.s (ix2 p σ) = ∑ q ∈ Finset.range (6 * n), zeroed (g p) (128 * q + σ.val)
  ep : ∀ p σ, z.p (ix2 p σ) = ∑ q ∈ Finset.range (6 * n), picked (g p) (x1 (ix2 p (0 : Fin 1))) (128 * q + σ.val)

/-- Before the first point. -/
theorem Inv_init (g : Fin 384 → ℕ → EReal) (x1 : Vec Ideal S384x1 .i32) : Inv g x1 0 stInit where
  emx p σ := by
    rw [Nat.mul_zero, Cert.Lse.top_zero]
    show k0_pay29 (k0_pay28 (F := Ideal)) (ix2 p σ) = _
    unfold k0_pay29 k0_pay28
    rw [shapeCast_self, maskbc]
  el p σ := by
    rw [Nat.mul_zero, Finset.sum_range_zero]
    show k0_pay30 (F := Ideal) (ix2 p σ) = _
    unfold k0_pay30
    rw [shapeCast_self, zerobc]
  es p σ := by
    rw [Nat.mul_zero, Finset.sum_range_zero]
    show k0_pay31 (F := Ideal) (ix2 p σ) = _
    unfold k0_pay31
    rw [shapeCast_self, zerobc]
  ep p σ := by
    rw [Nat.mul_zero, Finset.sum_range_zero]
    show k0_pay32 (F := Ideal) (ix2 p σ) = _
    unfold k0_pay32
    rw [shapeCast_self, zerobc]

section
variable {g : Fin 384 → ℕ → EReal} {x8 : Vec Ideal S384x8192 .fp8e4m3} {xs : Vec Ideal S384x128 .f32} {x1 : Vec Ideal S384x1 .i32} {x2 : Vec Ideal S768x8192 .fp8e4m3} {x3 : Vec Ideal S1x768 .f32}

theorem tm_eq (t : Fin cfg0.N) (n : ℕ) (hn : t.val = n)
    (hg : ∀ (p : Fin 384) (σ : Fin 128) (k : Fin 6), 128 * (6 * n + k.val) + σ.val < 38016 → tl x8 xs x2 x3 p σ (col k σ) = g p (128 * (6 * n + k.val) + σ.val))
    (k : Fin 6) (p : Fin 384) (σ : Fin 128) : tm (grid0.coords t) x8 xs x2 x3 k p σ = lt (g p) σ (6 * n + k.val) := by
  unfold tm lt Cert.Lse.masked
  rw [inn_eq t n hn, select_ofBool]
  split
  · next h => exact hg p σ k h
  · rfl

theorem tz_eq (t : Fin cfg0.N) (n : ℕ) (hn : t.val = n)
    (hg : ∀ (p : Fin 384) (σ : Fin 128) (k : Fin 6), 128 * (6 * n + k.val) + σ.val < 38016 → tl x8 xs x2 x3 p σ (col k σ) = g p (128 * (6 * n + k.val) + σ.val))
    (k : Fin 6) (p : Fin 384) (σ : Fin 128) : tz (grid0.coords t) x8 xs x2 x3 k p σ = zeroed (g p) (128 * (6 * n + k.val) + σ.val) := by
  unfold tz zeroed
  rw [inn_eq t n hn, select_ofBool]
  split
  · next h => exact hg p σ k h
  · rfl

theorem tp_eq (t : Fin cfg0.N) (n : ℕ) (hn : t.val = n)
    (hg : ∀ (p : Fin 384) (σ : Fin 128) (k : Fin 6), 128 * (6 * n + k.val) + σ.val < 38016 → tl x8 xs x2 x3 p σ (col k σ) = g p (128 * (6 * n + k.val) + σ.val))
    (hl : ∀ p : Fin 384, IntOp.cmpi .slt (x1 (ix2 p (0 : Fin 1))) 38016#32 = 1#1)
    (k : Fin 6) (p : Fin 384) (σ : Fin 128) : tp (grid0.coords t) x8 xs x1 x2 x3 k p σ = picked (g p) (x1 (ix2 p (0 : Fin 1))) (128 * (6 * n + k.val) + σ.val) := by
  have ht : t.val < 50 := Nat.lt_of_lt_of_eq t.isLt N_0
  unfold tp picked
  rw [isl_eq t n hn, select_ofBool]
  by_cases h : 128 * (6 * n + k.val) + σ.val < 38016
  · by_cases h' : BitVec.ofNat 32 (128 * (6 * n + k.val) + σ.val) = x1 (ix2 p (0 : Fin 1))
    · rw [if_pos h', if_pos ⟨h, h'⟩]; exact hg p σ k h
    · rw [if_neg h', if_neg fun hh => h' hh.2]
  · rw [if_neg (past_ne (hl p) (by omega) (by omega)), if_neg fun hh => h hh.1]

/-- One more point. -/
theorem Inv_step (t : Fin cfg0.N) (n : ℕ) (hn : t.val = n)
    (hg : ∀ (p : Fin 384) (σ : Fin 128) (k : Fin 6), 128 * (6 * n + k.val) + σ.val < 38016 → tl x8 xs x2 x3 p σ (col k σ) = g p (128 * (6 * n + k.val) + σ.val))
    (hl : ∀ p : Fin 384, IntOp.cmpi .slt (x1 (ix2 p (0 : Fin 1))) 38016#32 = 1#1) {s : St Ideal} (h : Inv g x1 n s) :
    Inv g x1 (n + 1) (stStep (grid0.coords t) x8 xs x1 x2 x3 s) where
  emx p σ := by
    show stM _ _ _ _ _ _ (ix2 p σ) = _
    rw [stM_apply, h.emx, Cert.Lse.top_six]
    unfold max6
    simp only [tm_eq t n hn hg]
    rfl
  el p σ := by
    have e : max6 (s.mx (ix2 p σ)) (fun k => tm (grid0.coords t) x8 xs x2 x3 k p σ) = Cert.Lse.top (lt (g p) σ) (6 * (n + 1)) := by
      rw [h.emx, Cert.Lse.top_six]
      unfold max6
      simp only [tm_eq t n hn hg]
      rfl
    show stL _ _ _ _ _ _ _ (ix2 p σ) = _
    rw [stL_apply, e, h.emx, h.el, Cert.Lse.exps_six]
    unfold add6
    simp only [tm_eq t n hn hg]
    rfl
  es p σ := by
    show stT _ _ _ _ _ _ (ix2 p σ) = _
    rw [stT_apply, h.es, Cert.Lse.sum_six (fun q => zeroed (g p) (128 * q + σ.val))]
    unfold add6
    simp only [tz_eq t n hn hg]
    rfl
  ep p σ := by
    show stP _ _ _ _ _ _ _ (ix2 p σ) = _
    rw [stP_apply, h.ep, Cert.Lse.sum_six (fun q => picked (g p) (x1 (ix2 p (0 : Fin 1))) (128 * q + σ.val))]
    unfold add6
    simp only [tp_eq t n hn hg hl]
    rfl
end

/-- Whatever values the points may leave, they are these. -/
theorem Inv_reach (m : (ℓ : Loc nD τ sig) → Buf (Elt Ideal) ℓ) (c : Dev nD) (g : Fin 384 → ℕ → EReal)
    (hg : ∀ (t : Fin cfg0.N) (d2 : Vec Ideal S768x8192 .fp8e4m3) (d3 : Vec Ideal S1x768 .f32) (p : Fin 384) (σ : Fin 128) (k : Fin 6), 128 * (6 * t.val + k.val) + σ.val < 38016 →
      tl (x8of (xIn m c)) (xsOf (xIn m c)) (wIn m c t d2) (wsIn m c t d3) p σ (col k σ) = g p (128 * (6 * t.val + k.val) + σ.val))
    (hl : ∀ p : Fin 384, IntOp.cmpi .slt (labIn m c (ix2 p (0 : Fin 1))) 38016#32 = 1#1) :
    ∀ (n : ℕ) (s : St Ideal), Reach m c n s → Inv g (labIn m c) n s := by
  intro n
  induction n with
  | zero => intro s hs; rw [show s = stInit from hs]; exact Inv_init g _
  | succ n ih =>
    intro s hs
    obtain ⟨h, d2, d3, s', hs', rfl⟩ := hs
    exact Inv_step ⟨n, h⟩ n rfl (fun p σ k hv => hg ⟨n, h⟩ d2 d3 p σ k hv) hl (ih s' hs')

/-! ## The loss -/

/-- The loss of a row: its largest logit, its sum of exponentials below that, its sum of logits and its label's logit. -/
def lossFn (M E S P : EReal) : EReal :=
  Ideal.ofBits .f32 0x3F666666#32 * ((M + Ideal.log E) - P) + Ideal.ofBits .f32 0x3DCCCCCD#32 * ((M + Ideal.log E) - Ideal.div S (Ideal.ofBits .f32 0x47148000#32))
    - Ideal.ofBits .f32 0x4128BB71#32

theorem log_apply {s : Shape} {φ : FTy} (a : FVec Ideal s φ) (i : s.Idx) : log a i = Ideal.log (a i) := rfl
theorem splat_apply {s : Shape} (b : BitVec 32) (i : s.Idx) : broadcast s (Scalar.ofBits (F := Ideal) .f32 b) i = Ideal.ofBits .f32 b := rfl

/-- The loss the last point makes of running values, in terms of the lanes. -/
theorem pay5_apply (mx l s q : Vec Ideal S384x128 .f32) (p : Fin 384) :
    k0_pay5 mx l mx s q (ix2 p (0 : Fin 1)) = lossFn ((Finset.univ : Finset (Fin 128)).sup fun σ => mx (ix2 p σ))
      (∑ σ : Fin 128, l (ix2 p σ) * Ideal.exp (mx (ix2 p σ) - (Finset.univ : Finset (Fin 128)).sup fun σ => mx (ix2 p σ)))
      (∑ σ : Fin 128, s (ix2 p σ)) (∑ σ : Fin 128, q (ix2 p σ)) := by
  have hm : shapeCast S384x1 (multiReduction (F := Ideal) (φ := .f32) .maximumf [1] S384 mx 0xFF800000#32 reduces_S384x128_S384 (.inl rfl) rfl) shapeCasts_S384_S384x1 (ix2 p (0 : Fin 1))
      = (Finset.univ : Finset (Fin 128)).sup fun σ => mx (ix2 p σ) :=
    (shapeCast_a_a1_apply _ _ p 0).trans (Cert.Ops.rowMax_apply (m := 384) (n := 128) mx _ _ _ _ Cert.Ops.ofBits_bot_f32 p)
  have hs : ∀ x : FVec Ideal S384x128 .f32, shapeCast S384x1 (multiReduction (F := Ideal) (φ := .f32) .add [1] S384 x 0x00000000#32 reduces_S384x128_S384 (.inl rfl) rfl) shapeCasts_S384_S384x1 (ix2 p (0 : Fin 1))
      = ∑ σ : Fin 128, x (ix2 p σ) := fun x =>
    (shapeCast_a_a1_apply _ _ p 0).trans (Cert.Ops.rowSum_apply (m := 384) (n := 128) x _ _ _ _ p)
  have hb : ∀ (x : FVec Ideal S384x1 .f32) (σ : Fin 128), broadcastTo S384x128 x broadcasts_S384x1_S384x128 (ix2 p σ) = x (ix2 p (0 : Fin 1)) := fun x σ =>
    Cert.Ops.broadcastTo_a1_ab_apply x _ p σ
  unfold k0_pay5 lossFn
  simp only [subf_apply, addf_apply, mulf_apply, divf_apply, log_apply, splat_apply, hm, hs, hb, exp_apply]

/-- The loss of the running values after all the points. -/
theorem loss_eq {g : Fin 384 → ℕ → EReal} {x1 : Vec Ideal S384x1 .i32} {s : St Ideal} (h : Inv g x1 50 s) (p : Fin 384) :
    lossOf s (ix2 p (0 : Fin 1)) = lossFn ((Finset.univ : Finset (Fin 38016)).sup fun v => g p v.val)
      (∑ v : Fin 38016, Ideal.exp (g p v.val - (Finset.univ : Finset (Fin 38016)).sup fun v => g p v.val))
      (∑ v : Fin 38016, g p v.val) (∑ v : Fin 38016, if BitVec.ofNat 32 v.val = x1 (ix2 p (0 : Fin 1)) then g p v.val else 0) := by
  have hM : ((Finset.univ : Finset (Fin 128)).sup fun σ => s.mx (ix2 p σ)) = (Finset.univ : Finset (Fin 38016)).sup fun v => g p v.val := by
    rw [← Cert.Lse.top_cols]
    exact Finset.sup_congr rfl fun σ _ => h.emx p σ
  have hE : ∑ σ : Fin 128, s.l (ix2 p σ) * Ideal.exp (s.mx (ix2 p σ) - (Finset.univ : Finset (Fin 38016)).sup fun v => g p v.val)
      = ∑ v : Fin 38016, Ideal.exp (g p v.val - (Finset.univ : Finset (Fin 38016)).sup fun v => g p v.val) := by
    rw [← Cert.Lse.exps_cols (g p) _ fun σ => ?_]
    · exact Finset.sum_congr rfl fun σ _ => by rw [h.el, h.emx]; rfl
    · rw [← Cert.Lse.top_cols]
      exact Finset.le_sup (f := fun σ : Fin 128 => Cert.Lse.top (fun q => Cert.Lse.masked (g p) (128 * q + σ.val)) 300) (Finset.mem_univ σ)
  have hS : ∑ σ : Fin 128, s.s (ix2 p σ) = ∑ v : Fin 38016, g p v.val := by
    rw [Finset.sum_congr rfl fun σ _ => h.es p σ]
    exact (Cert.Lse.sum_cols (zeroed (g p)) fun v h1 _ => if_neg (by omega)).trans (Finset.sum_congr rfl fun v _ => if_pos v.isLt)
  have hP : ∑ σ : Fin 128, s.p (ix2 p σ) = ∑ v : Fin 38016, if BitVec.ofNat 32 v.val = x1 (ix2 p (0 : Fin 1)) then g p v.val else 0 := by
    rw [Finset.sum_congr rfl fun σ _ => h.ep p σ]
    refine (Cert.Lse.sum_cols (picked (g p) _) fun v h1 _ => if_neg (by omega)).trans (Finset.sum_congr rfl fun v _ => ?_)
    unfold picked
    by_cases h' : BitVec.ofNat 32 v.val = x1 (ix2 p (0 : Fin 1))
    · rw [if_pos h', if_pos ⟨v.isLt, h'⟩]
    · rw [if_neg h', if_neg fun hh => h' hh.2]
  unfold lossOf
  rw [pay5_apply, hM, hE, hS, hP]

end Cert.KernelIdeal.Gen

end
-- ==== Proof.Scale.lean ====
/- The power of two a row is scaled by. The kernel finds the exponent of a number by comparing it with eight words; the reference takes the floor of
   a logarithm. Here both are computed for zero and for every number in a range that leaves room for the exponents. -/
module

public import Idealize.ShloMosaic.PureOps.Ideal.Laws

@[expose] public section

set_option maxRecDepth 16384

noncomputable section

namespace Cert.Scale

open Idealize.ShloMosaic

/-! ## Words and the powers of two they denote -/

/-- The word whose exponent field is `n` and whose other fields are zero. -/
def pw (n : ℕ) : BitVec 32 := BitVec.ofNat 32 (n * 2 ^ 23)

/-- The exponent field of such a word, and that the rest of it is zero. -/
theorem pw_fields : ∀ n : Fin 256, (((pw n.val).extractLsb' (8 + 23) 1 == 1#1) = false) ∧ ((pw n.val).extractLsb' 23 8).toNat = n.val
    ∧ ((pw n.val).extractLsb' 0 23).toNat = 0 := by decide +kernel

/-- A normal power of two. -/
theorem pw_val (n : ℕ) (h1 : 1 ≤ n) (h2 : n ≤ 254) : Ideal.ofBits .f32 (pw n) = (((2 : ℝ) ^ ((n : ℤ) - 127) : ℝ) : EReal) := by
  obtain ⟨e1, e2, e3⟩ := pw_fields ⟨n, by omega⟩
  simp only at e1 e2 e3
  show Ideal.ieee 8 23 (pw n) = _
  unfold Ideal.ieee
  simp only [e1, e2, e3]
  rw [if_neg (by omega), if_neg (by omega)]
  congr 1
  have : ((2 ^ 23 + 0 : ℕ) : ℝ) = (2 : ℝ) ^ (23 : ℤ) := by norm_num
  rw [this]
  simp only [Bool.false_eq_true, if_false, one_mul]
  rw [← zpow_add₀ (by norm_num : (2 : ℝ) ≠ 0)]
  congr 1
  norm_num

/-- Zero. -/
theorem pw_zero : Ideal.ofBits .f32 (pw 0) = 0 := Ideal.ofBits_zero_f32

/-- The all-ones exponent is infinity. -/
theorem pw_top : Ideal.ofBits .f32 (pw 255) = ⊤ := by
  obtain ⟨e1, e2, e3⟩ := pw_fields ⟨255, by omega⟩
  simp only at e1 e2 e3
  show Ideal.ieee 8 23 (pw 255) = _
  unfold Ideal.ieee
  simp only [e1, e2, e3]
  simp

/-! ## The search -/

/-- One comparison: the bit `c` is set unless the number is below what the word with it set denotes. -/
def step (y : EReal) (c b : BitVec 32) : BitVec 32 :=
  Scalar.select (Ideal.cmp .olt y (Ideal.ofBits .f32 (IntOp.ori b c))) b (IntOp.ori b c)

/-- The eight comparisons, from the highest bit of the exponent field down. -/
def search (y : EReal) : BitVec 32 :=
  step y 8388608#32 (step y 16777216#32 (step y 33554432#32 (step y 67108864#32 (step y 134217728#32 (step y 268435456#32
    (step y 536870912#32 (step y 1073741824#32 0#32)))))))

/-- `E` is the number's exponent field: a word of exponent field `n` is at most the number just when `n` is at most `E`. -/
def IsExp (y : EReal) (E : ℕ) : Prop := E < 256 ∧ ∀ n : ℕ, n ≤ 255 → (Ideal.ofBits .f32 (pw n) ≤ y ↔ n ≤ E)

/-- One comparison refines what is known of the exponent field. -/
theorem step_eq {y : EReal} {E : ℕ} (h : IsExp y E) (a b n : ℕ) (c : BitVec 32) (hn : n ≤ 255) (hor : IntOp.ori (pw a) c = pw n) (h1 : n ≤ E → n = b) (h2 : ¬ n ≤ E → a = b) :
    step y c (pw a) = pw b := by
  unfold step
  rw [hor]
  by_cases hle : n ≤ E
  · have := (h.2 n hn).2 hle
    rw [Ideal.cmp, decide_eq_false (not_lt.2 this), ← h1 hle]; rfl
  · have : ¬ Ideal.ofBits .f32 (pw n) ≤ y := fun hh => hle ((h.2 n hn).1 hh)
    rw [Ideal.cmp, decide_eq_true (not_le.1 this), ← h2 hle]; rfl

theorem or7 : ∀ E : Fin 256, IntOp.ori (pw 0) 1073741824#32 = pw (128) := by decide +kernel
theorem or6 : ∀ E : Fin 256, IntOp.ori (pw (E.val / 128 * 128)) 536870912#32 = pw (E.val / 128 * 128 + 64) := by decide +kernel
theorem or5 : ∀ E : Fin 256, IntOp.ori (pw (E.val / 64 * 64)) 268435456#32 = pw (E.val / 64 * 64 + 32) := by decide +kernel
theorem or4 : ∀ E : Fin 256, IntOp.ori (pw (E.val / 32 * 32)) 134217728#32 = pw (E.val / 32 * 32 + 16) := by decide +kernel
theorem or3 : ∀ E : Fin 256, IntOp.ori (pw (E.val / 16 * 16)) 67108864#32 = pw (E.val / 16 * 16 + 8) := by decide +kernel
theorem or2 : ∀ E : Fin 256, IntOp.ori (pw (E.val / 8 * 8)) 33554432#32 = pw (E.val / 8 * 8 + 4) := by decide +kernel
theorem or1 : ∀ E : Fin 256, IntOp.ori (pw (E.val / 4 * 4)) 16777216#32 = pw (E.val / 4 * 4 + 2) := by decide +kernel
theorem or0 : ∀ E : Fin 256, IntOp.ori (pw (E.val / 2 * 2)) 8388608#32 = pw (E.val / 2 * 2 + 1) := by decide +kernel

/-- The search finds the exponent field. -/
theorem search_eq {y : EReal} {E : ℕ} (h : IsExp y E) : search y = pw E := by
  have hE := h.1
  unfold search
  rw [show (0#32 : BitVec 32) = pw 0 from rfl,
    step_eq h 0 (E / 128 * 128) 128 _ (by omega) (or7 ⟨E, hE⟩) (by omega) (by omega),
    step_eq h (E / 128 * 128) (E / 64 * 64) (E / 128 * 128 + 64) _ (by omega) (or6 ⟨E, hE⟩) (by omega) (by omega),
    step_eq h (E / 64 * 64) (E / 32 * 32) (E / 64 * 64 + 32) _ (by omega) (or5 ⟨E, hE⟩) (by omega) (by omega),
    step_eq h (E / 32 * 32) (E / 16 * 16) (E / 32 * 32 + 16) _ (by omega) (or4 ⟨E, hE⟩) (by omega) (by omega),
    step_eq h (E / 16 * 16) (E / 8 * 8) (E / 16 * 16 + 8) _ (by omega) (or3 ⟨E, hE⟩) (by omega) (by omega),
    step_eq h (E / 8 * 8) (E / 4 * 4) (E / 8 * 8 + 4) _ (by omega) (or2 ⟨E, hE⟩) (by omega) (by omega),
    step_eq h (E / 4 * 4) (E / 2 * 2) (E / 4 * 4 + 2) _ (by omega) (or1 ⟨E, hE⟩) (by omega) (by omega),
    step_eq h (E / 2 * 2) E (E / 2 * 2 + 1) _ (by omega) (or0 ⟨E, hE⟩) (by omega) (by omega)]

/-! ## From the word to the scale -/

/-- The exponent the kernel reads off the word. -/
def ew (b : BitVec 32) : BitVec 32 :=
  Scalar.select (IntOp.cmpi .slt b 8388608#32) 0#32 (IntOp.subi (IntOp.shrsi .vector b 23#32) 126#32)
/-- The word of the scale. -/
def scaleW (b : BitVec 32) : BitVec 32 := IntOp.shli .vector (IntOp.addi (ew b) 127#32) 23#32
/-- The word of the scale's inverse. -/
def invW (b : BitVec 32) : BitVec 32 := IntOp.shli .vector (IntOp.subi 127#32 (ew b)) 23#32

theorem scaleW_eq : ∀ E : Fin 253, scaleW (pw E.val) = pw (if E.val = 0 then 127 else E.val + 1) := by decide +kernel
theorem invW_eq : ∀ E : Fin 253, invW (pw E.val) = pw (if E.val = 0 then 127 else 253 - E.val) := by decide +kernel

/-- The scale of a row by its largest quotient `y`. -/
def scale (y : EReal) : EReal := Ideal.ofBits .f32 (scaleW (search y))
/-- Its inverse. -/
def inv (y : EReal) : EReal := Ideal.ofBits .f32 (invW (search y))

/-! ## The exponent field of a number -/

/-- Zero's. -/
theorem isExp_zero : IsExp 0 0 := by
  refine ⟨by omega, fun n hn => ⟨fun h => ?_, fun h => ?_⟩⟩
  · by_contra hc
    by_cases h255 : n = 255
    · subst h255; rw [pw_top] at h; simp at h
    · rw [pw_val n (by omega) (by omega)] at h
      have : (0 : ℝ) < (2 : ℝ) ^ ((n : ℤ) - 127) := by positivity
      rw [← EReal.coe_zero, EReal.coe_le_coe_iff] at h
      linarith
  · obtain rfl : n = 0 := by omega
    exact pw_zero.le

/-- That of a number between two neighbouring normal powers of two. -/
theorem isExp_real {r : ℝ} {E : ℕ} (h1 : 1 ≤ E) (h2 : E ≤ 252) (lo : (2 : ℝ) ^ ((E : ℤ) - 127) ≤ r) (hi : r < (2 : ℝ) ^ ((E : ℤ) - 126)) : IsExp (r : EReal) E := by
  have hr : 0 < r := lt_of_lt_of_le (by positivity) lo
  refine ⟨by omega, fun n hn => ?_⟩
  by_cases h0 : n = 0
  · subst h0; rw [pw_zero, ← EReal.coe_zero, EReal.coe_le_coe_iff]; exact ⟨fun _ => by omega, fun _ => hr.le⟩
  by_cases h255 : n = 255
  · subst h255; rw [pw_top]
    exact ⟨fun h => by simp at h, fun h => by omega⟩
  rw [pw_val n (by omega) (by omega), EReal.coe_le_coe_iff]
  constructor
  · intro h
    have := lt_of_le_of_lt h hi
    have := (zpow_lt_zpow_iff_right₀ (by norm_num : (1 : ℝ) < 2)).1 this
    omega
  · intro h
    exact le_trans (zpow_le_zpow_right₀ (by norm_num) (by omega)) lo

/-- The kernel's scale and inverse at zero: one. -/
theorem scale_zero : scale 0 = 1 ∧ inv 0 = 1 := by
  have e : Ideal.ofBits .f32 (pw 127) = 1 := by rw [pw_val 127 (by omega) (by omega)]; norm_num
  unfold scale inv
  rw [search_eq isExp_zero, show scaleW (pw 0) = _ from scaleW_eq ⟨0, by omega⟩, show invW (pw 0) = _ from invW_eq ⟨0, by omega⟩]
  exact ⟨e, e⟩

/-- The kernel's scale and inverse of a number of exponent field `E`. -/
theorem scale_real {y : EReal} {E : ℕ} (h : IsExp y E) (h1 : 1 ≤ E) (h2 : E ≤ 252) :
    scale y = (((2 : ℝ) ^ ((E : ℤ) - 126) : ℝ) : EReal) ∧ inv y = (((2 : ℝ) ^ (126 - (E : ℤ)) : ℝ) : EReal) := by
  unfold scale inv
  rw [search_eq h, show scaleW (pw E) = _ from scaleW_eq ⟨E, by omega⟩, show invW (pw E) = _ from invW_eq ⟨E, by omega⟩]
  simp only
  rw [if_neg (by omega), if_neg (by omega), pw_val _ (by omega) (by omega), pw_val _ (by omega) (by omega)]
  constructor
  · congr 2; push_cast; ring
  · congr 2; push_cast [show E ≤ 253 by omega]; ring

/-! ## The reference's exponent -/

/-- The reference's exponent of a row whose largest entry is `a` and largest quotient `y`. -/
def rexp (a y : EReal) : EReal :=
  Scalar.select (Ideal.cmp .oeq a 0) 0 (Ideal.liftRound Int.floor (Ideal.div (Ideal.log y) (Ideal.log (Ideal.ofBits .f32 0x40000000#32))) + 1)

/-- Of a positive real, the floor of its logarithm to base two. -/
theorem floor_log {r : ℝ} {E : ℕ} (lo : (2 : ℝ) ^ ((E : ℤ) - 127) ≤ r) (hi : r < (2 : ℝ) ^ ((E : ℤ) - 126)) :
    Int.floor (Real.log r * (1 / Real.log 2)) = (E : ℤ) - 127 := by
  have hl : 0 < Real.log 2 := Real.log_pos (by norm_num)
  have hr : 0 < r := lt_of_lt_of_le (by positivity) lo
  rw [mul_one_div, Int.floor_eq_iff, le_div_iff₀ hl, div_lt_iff₀ hl]
  constructor
  · have := Real.log_le_log (by positivity) lo
    rwa [Real.log_zpow] at this
  · have := Real.log_lt_log hr hi
    rw [Real.log_zpow] at this
    push_cast at this ⊢
    linarith

/-- Two as the reference's word. -/
theorem ofBits_two : Ideal.ofBits .f32 0x40000000#32 = ((2 : ℝ) : EReal) := by
  rw [show (0x40000000#32 : BitVec 32) = pw 128 from rfl, pw_val 128 (by omega) (by omega)]; norm_num

/-- The quotient's factor, a positive real. -/
theorem factor : ∃ c : ℝ, 0 < c ∧ Ideal.ofBits .f32 0x3B124925#32 = (c : EReal) := by
  refine ⟨_, ?_, rfl⟩
  simp [-EReal.coe_mul]

/-- The reference's exponent of a number of exponent field `E`. -/
theorem rexp_real {a : EReal} {r : ℝ} {E : ℕ} (ha : a ≠ 0) (lo : (2 : ℝ) ^ ((E : ℤ) - 127) ≤ r) (hi : r < (2 : ℝ) ^ ((E : ℤ) - 126)) :
    rexp a (r : EReal) = (((E : ℝ) - 126 : ℝ) : EReal) := by
  have hl : 0 < Real.log 2 := Real.log_pos (by norm_num)
  have hr : 0 < r := lt_of_lt_of_le (by positivity) lo
  unfold rexp
  rw [ofBits_two, Ideal.log_coe, Ideal.log_coe, if_neg (by linarith), if_neg (by norm_num), Ideal.div_coe hl.ne', ← EReal.coe_mul]
  rw [Ideal.cmp, decide_eq_false ha]
  show Ideal.liftRound Int.floor ((Real.log r * (1 / Real.log 2) : ℝ) : EReal) + 1 = _
  show (((Int.floor (Real.log r * (1 / Real.log 2)) : ℤ) : ℝ) : EReal) + 1 = _
  rw [floor_log lo hi, ← EReal.coe_one, ← EReal.coe_add]
  congr 1; push_cast; ring

/-- Two to a whole power, the exponent a real number. -/
theorem exp2_int (z : ℤ) : Ideal.exp2 (((z : ℝ)) : EReal) = (((2 : ℝ) ^ z : ℝ) : EReal) := by
  rw [Ideal.exp2_coe]; congr 1; exact Real.rpow_intCast 2 z

/-- What is asked of a row's largest quotient: it is zero, or neither too small nor too large for its exponent to be read. -/
def InRange (y : EReal) : Prop := y = 0 ∨ (Ideal.ofBits .f32 0x00800000#32 ≤ y ∧ y < Ideal.ofBits .f32 0x7E800000#32)

/-- The kernel's scale is the reference's, and so is its inverse. -/
theorem scale_eq {a y : EReal} (hy : y = a * Ideal.ofBits .f32 0x3B124925#32) (h : InRange y) :
    scale y = Ideal.exp2 (rexp a y) ∧ inv y = Ideal.exp2 (0 - rexp a y) := by
  obtain ⟨c, hc, ec⟩ := factor
  rw [ec] at hy
  rcases h with h | ⟨h1, h2⟩
  · have ha : a = 0 := by
      rcases mul_eq_zero.1 (hy.symm.trans h) with h | h
      · exact h
      · exact absurd (EReal.coe_eq_zero.1 h) hc.ne'
    have e : rexp a y = 0 := by unfold rexp; rw [ha, Ideal.cmp, decide_eq_true rfl]; rfl
    rw [e, h, scale_zero.1, scale_zero.2]
    have : Ideal.exp2 0 = 1 := by
      have := exp2_int 0; simpa using this
    simp [this]
  · rw [show (0x00800000#32 : BitVec 32) = pw 1 from rfl, pw_val 1 (by omega) (by omega)] at h1
    rw [show (0x7E800000#32 : BitVec 32) = pw 253 from rfl, pw_val 253 (by omega) (by omega)] at h2
    obtain ⟨r, rfl⟩ : ∃ r : ℝ, y = r := by
      induction y with
      | bot => simp at h1
      | top => simp at h2
      | coe r => exact ⟨r, rfl⟩
    rw [EReal.coe_le_coe_iff] at h1
    rw [EReal.coe_lt_coe_iff] at h2
    have hr : 0 < r := lt_of_lt_of_le (by positivity) h1
    obtain ⟨n, lo, hi⟩ := exists_mem_Ico_zpow hr (by norm_num : (1 : ℝ) < 2)
    have b1 := (zpow_lt_zpow_iff_right₀ (by norm_num : (1 : ℝ) < 2)).1 (lt_of_le_of_lt h1 hi)
    have b2 := (zpow_lt_zpow_iff_right₀ (by norm_num : (1 : ℝ) < 2)).1 (lt_of_le_of_lt lo h2)
    push_cast at b1 b2
    obtain ⟨E, hE⟩ : ∃ E : ℕ, n = (E : ℤ) - 127 := ⟨(n + 127).toNat, by omega⟩
    subst hE
    have hi' : r < (2 : ℝ) ^ ((E : ℤ) - 126) := by rw [show (E : ℤ) - 126 = (E : ℤ) - 127 + 1 by ring]; exact hi
    have ha : a ≠ 0 := by
      rintro rfl
      rw [zero_mul] at hy
      exact hr.ne' (EReal.coe_eq_zero.1 hy)
    have hs := scale_real (isExp_real (by omega) (by omega) lo hi') (by omega) (by omega)
    rw [hs.1, hs.2, rexp_real ha lo hi']
    constructor
    · rw [← exp2_int]; congr 2; push_cast; ring
    · rw [← exp2_int, ← EReal.coe_zero, ← EReal.coe_sub]; congr 2; push_cast; ring

end Cert.Scale

end
-- ==== Proof.Quant.lean ====
/- The kernel's codes and scales, read at an index. -/
module

public import proofs.«01_k».proof.Proof.Tile
public import proofs.«01_k».proof.Proof.Scale

@[expose] public section

set_option maxRecDepth 16384

noncomputable section

namespace Cert.KernelIdeal.Gen

open Idealize.ShloMosaic Idealize.ShloMosaic.ValueIdx
open scoped BigOperators

/-- A row's largest quotient: its largest magnitude times the reciprocal of the largest code. -/
def quot {n : ℕ} (x : Fin n → EReal) : EReal := ((Finset.univ : Finset (Fin n)).sup fun d => max (x d) (-(x d))) * Ideal.ofBits .f32 0x3B124925#32

/-- A number scaled and clamped to the codes' range. -/
def code (x i : EReal) : EReal := min (Ideal.ofBits .f32 0x43E00000#32) (max (Ideal.ofBits .f32 0xC3E00000#32) (x * i))

section Chunk
variable (v : FVec Ideal S128x8192 .bf16)

/-- The column of largest quotients, as the kernel computes it. -/
def colQuot : FVec Ideal S128x1 .f32 :=
  mulf (extf .f32 (shapeCast S128x1 (multiReduction (F := Ideal) (φ := .bf16) .maximumf [1] S128 (absf v) 0xFF80#16 reduces_S128x8192_S128 (.inr rfl) rfl) shapeCasts_S128_S128x1) bitsLt_bf16_f32)
    (broadcast S128x1 (Scalar.ofBits (F := Ideal) .f32 0x3B124925#32))

theorem colQuot_apply (r : Fin 128) : colQuot v (ix2 r (0 : Fin 1)) = quot fun d : Fin 8192 => v (ix2 r d) := by
  unfold colQuot
  rw [mulf_apply, extf_apply]
  unfold quot
  refine congrArg (· * Ideal.ofBits .f32 0x3B124925#32) ?_
  refine (shapeCast_a_a1_apply _ _ r 0).trans ?_
  refine (Cert.Ops.rowMax_apply (absf v) _ _ _ _ Cert.Ops.ofBits_bot_bf16 r).trans ?_
  exact Finset.sup_congr rfl fun d _ => rfl

/-- One comparison of the search, on a column. -/
def vstep (Y : FVec Ideal S128x1 .f32) (c : BitVec 32) (B : IVec S128x1 32) : IVec S128x1 32 :=
  select (cmpf .olt Y (bitcastToFloat .f32 (ori B (broadcast S128x1 c)))) B (ori B (broadcast S128x1 c))

theorem vstep_apply (Y : FVec Ideal S128x1 .f32) (c : BitVec 32) (B : IVec S128x1 32) (j : S128x1.Idx) : vstep Y c B j = Cert.Scale.step (Y j) c (B j) := rfl

/-- The search on a column. -/
def vsearch : IVec S128x1 32 := vstep (colQuot v) 8388608#32 (vstep (colQuot v) 16777216#32 (vstep (colQuot v) 33554432#32 (vstep (colQuot v) 67108864#32 (vstep (colQuot v) 134217728#32 (vstep (colQuot v) 268435456#32 (vstep (colQuot v) 536870912#32 (vstep (colQuot v) 1073741824#32 (broadcast S128x1 0#32))))))))

theorem vsearch_apply (r : Fin 128) : vsearch v (ix2 r (0 : Fin 1)) = Cert.Scale.search (quot fun d : Fin 8192 => v (ix2 r d)) := by
  unfold vsearch
  rw [vstep_apply, vstep_apply, vstep_apply, vstep_apply, vstep_apply, vstep_apply, vstep_apply, vstep_apply, colQuot_apply]
  unfold Cert.Scale.search
  rfl

theorem pay7_eq : k0_pay7 (F := Ideal) v = colQuot v := by
  unfold k0_pay7 k0_pay6 colQuot
  rw [shapeCast_self]
theorem pay8_eq : k0_pay8 (F := Ideal) v = vstep (colQuot v) 16777216#32 (vstep (colQuot v) 33554432#32 (vstep (colQuot v) 67108864#32 (vstep (colQuot v) 134217728#32 (vstep (colQuot v) 268435456#32 (vstep (colQuot v) 536870912#32 (vstep (colQuot v) 1073741824#32 (broadcast S128x1 0#32))))))) := by
  unfold k0_pay8
  rw [pay7_eq]
  unfold vstep
  rfl
theorem pay16_eq : k0_pay16 (F := Ideal) v = vsearch v := by
  unfold k0_pay16 k0_pay15 vsearch
  rw [shapeCast_self]
  unfold vstep colQuot
  rfl
theorem pay22_eq : k0_pay22 (F := Ideal) v = vsearch v := by
  unfold k0_pay22 vsearch vstep colQuot
  rfl

/-- The exponent of a column of words. -/
def vew (B : IVec S128x1 32) : IVec S128x1 32 :=
  select (cmpi .slt B (broadcast S128x1 8388608#32)) (broadcast S128x1 0#32) (subi (shrsi B (broadcast S128x1 23#32)) (broadcast S128x1 126#32))

theorem vew_apply (B : IVec S128x1 32) (j : S128x1.Idx) : vew B j = Cert.Scale.ew (B j) := rfl

theorem pay11_eq : k0_pay11 (F := Ideal) (k0_pay7 (F := Ideal) v) (k0_pay8 (F := Ideal) v) (k0_pay9 (F := Ideal) v) (k0_pay10 (F := Ideal) v) = vew (vsearch v) := by
  unfold k0_pay11 k0_pay10 k0_pay9
  rw [pay8_eq, pay7_eq]
  unfold vew vsearch
  generalize vstep (colQuot v) 16777216#32 (vstep (colQuot v) 33554432#32 (vstep (colQuot v) 67108864#32 (vstep (colQuot v) 134217728#32 (vstep (colQuot v) 268435456#32 (vstep (colQuot v) 536870912#32 (vstep (colQuot v) 1073741824#32 (broadcast S128x1 0#32))))))) = B
  unfold vstep
  rfl
theorem pay17_eq (B : IVec S128x1 32) : k0_pay17 B = vew B := by
  unfold k0_pay17 vew
  rfl
theorem pay24_eq (B : IVec S128x1 32) : k0_pay24 B k0_pay23 = vew B := by
  unfold k0_pay24 k0_pay23 vew
  rfl

/-- The column of scales, and of their inverses. -/
def vscale (E : IVec S128x1 32) : FVec Ideal S128x1 .f32 := bitcastToFloat .f32 (shli (addi E (broadcast S128x1 127#32)) (broadcast S128x1 23#32))
def vinv (E : IVec S128x1 32) : FVec Ideal S128x1 .f32 := bitcastToFloat .f32 (shli (subi (broadcast S128x1 127#32) E) (broadcast S128x1 23#32))

theorem vscale_apply (r : Fin 128) : vscale (vew (vsearch v)) (ix2 r (0 : Fin 1)) = Cert.Scale.scale (quot fun d : Fin 8192 => v (ix2 r d)) := by
  have e : ∀ j, vscale (vew (vsearch v)) j = Ideal.ofBits .f32 (IntOp.shli .vector (IntOp.addi (vew (vsearch v) j) 127#32) 23#32) := fun _ => rfl
  unfold Cert.Scale.scale Cert.Scale.scaleW
  rw [e, vew_apply, vsearch_apply]
theorem vinv_apply (r : Fin 128) : vinv (vew (vsearch v)) (ix2 r (0 : Fin 1)) = Cert.Scale.inv (quot fun d : Fin 8192 => v (ix2 r d)) := by
  have e : ∀ j, vinv (vew (vsearch v)) j = Ideal.ofBits .f32 (IntOp.shli .vector (IntOp.subi 127#32 (vew (vsearch v) j)) 23#32) := fun _ => rfl
  unfold Cert.Scale.inv Cert.Scale.invW
  rw [e, vew_apply, vsearch_apply]

/-- A column broadcast along 128 lanes. -/
theorem scale_bc (z : S128x1.Idx → EReal) (h1 : S128x1.ShapeCasts S128x1) (h2 : S128x1.Broadcasts S128x128) (h3 : S128x128.ShapeCasts S128x128) (r σ : Fin 128) :
    shapeCast S128x128 (broadcastTo S128x128 (shapeCast S128x1 z h1) h2) h3 (ix2 r σ) = z (ix2 r (0 : Fin 1)) := by
  rw [shapeCast_self, shapeCast_self]; exact Cert.Ops.broadcastTo_a1_ab_apply z h2 r σ

theorem pay12_apply (r σ : Fin 128) : k0_pay12 (F := Ideal) (k0_pay7 (F := Ideal) v) (k0_pay8 (F := Ideal) v) (k0_pay9 (F := Ideal) v) (k0_pay10 (F := Ideal) v) (ix2 r σ) = Cert.Scale.scale (quot fun d : Fin 8192 => v (ix2 r d)) := by
  unfold k0_pay12
  rw [pay11_eq]
  exact (scale_bc (vscale (vew (vsearch v))) _ _ _ r σ).trans (vscale_apply v r)
theorem pay18_apply (r σ : Fin 128) : k0_pay18 (F := Ideal) (k0_pay16 (F := Ideal) v) (ix2 r σ) = Cert.Scale.scale (quot fun d : Fin 8192 => v (ix2 r d)) := by
  unfold k0_pay18
  rw [pay17_eq, pay16_eq]
  exact (scale_bc (vscale (vew (vsearch v))) _ _ _ r σ).trans (vscale_apply v r)
theorem pay25_apply (r σ : Fin 128) : k0_pay25 (F := Ideal) (k0_pay22 (F := Ideal) (k0_pay21 (F := Ideal) v)) k0_pay23 (ix2 r σ) = Cert.Scale.scale (quot fun d : Fin 8192 => v (ix2 r d)) := by
  have e21 : k0_pay21 (F := Ideal) v = v := by unfold k0_pay21; exact shapeCast_self _ _
  rw [e21, pay22_eq]
  unfold k0_pay25
  rw [pay24_eq]
  exact (scale_bc (vscale (vew (vsearch v))) _ _ _ r σ).trans (vscale_apply v r)

/-- A column of inverses broadcast along the rows, and the clamp. -/
def vcode (z : FVec Ideal S128x1 .f32) : FVec Ideal S128x8192 .fp8e4m3 :=
  truncf .fp8e4m3 (minimumf (broadcast S128x8192 (Scalar.truncf (F := Ideal) .bf16 bitsLt_bf16_f32 (Scalar.ofBits .f32 0x43E00000#32)))
      (maximumf (broadcast S128x8192 (Scalar.truncf (F := Ideal) .bf16 bitsLt_bf16_f32 (Scalar.ofBits .f32 0xC3E00000#32)))
        (mulf v (broadcastTo S128x8192 (truncf .bf16 z bitsLt_bf16_f32) broadcasts_S128x1_S128x8192)))) bitsLt_fp8e4m3_bf16

theorem vcode_apply (r : Fin 128) (d : Fin 8192) : vcode v (vinv (vew (vsearch v))) (ix2 r d) = code (v (ix2 r d)) (Cert.Scale.inv (quot fun d : Fin 8192 => v (ix2 r d))) := by
  have e : ∀ (z : FVec Ideal S128x1 .f32) (y : S128x8192.Idx), vcode v z y = code (v y) (broadcastTo S128x8192 (truncf .bf16 z bitsLt_bf16_f32) broadcasts_S128x1_S128x8192 y) := fun _ _ => rfl
  rw [e]
  refine congrArg (code (v (ix2 r d))) ?_
  exact (Cert.Ops.broadcastTo_a1_ab_apply _ _ r d).trans (vinv_apply v r)

theorem pay13_apply (r : Fin 128) (d : Fin 8192) : k0_pay13 (F := Ideal) (k0_pay6 (F := Ideal) v) (k0_pay7 (F := Ideal) v) (k0_pay8 (F := Ideal) v) (k0_pay9 (F := Ideal) v) (k0_pay10 (F := Ideal) v) (ix2 r d)
    = code (v (ix2 r d)) (Cert.Scale.inv (quot fun d : Fin 8192 => v (ix2 r d))) := by
  unfold k0_pay13 k0_pay6
  rw [pay11_eq, shapeCast_self]
  exact vcode_apply v r d
theorem pay14_apply (r : Fin 128) (d : Fin 8192) : k0_pay14 (F := Ideal) (k0_pay6 (F := Ideal) v) (k0_pay7 (F := Ideal) v) (k0_pay8 (F := Ideal) v) (k0_pay9 (F := Ideal) v) (k0_pay10 (F := Ideal) v) (ix2 r d)
    = code (v (ix2 r d)) (Cert.Scale.inv (quot fun d : Fin 8192 => v (ix2 r d))) := by
  unfold k0_pay14
  rw [shapeCast_self]
  exact pay13_apply v r d
theorem pay19_apply (r : Fin 128) (d : Fin 8192) : k0_pay19 (F := Ideal) (k0_pay15 (F := Ideal) v) (k0_pay16 (F := Ideal) v) (ix2 r d)
    = code (v (ix2 r d)) (Cert.Scale.inv (quot fun d : Fin 8192 => v (ix2 r d))) := by
  unfold k0_pay19 k0_pay15
  rw [pay17_eq, pay16_eq, shapeCast_self]
  exact vcode_apply v r d
theorem pay20_apply (r : Fin 128) (d : Fin 8192) : k0_pay20 (F := Ideal) (k0_pay15 (F := Ideal) v) (k0_pay16 (F := Ideal) v) (ix2 r d)
    = code (v (ix2 r d)) (Cert.Scale.inv (quot fun d : Fin 8192 => v (ix2 r d))) := by
  unfold k0_pay20
  rw [shapeCast_self]
  exact pay19_apply v r d
theorem pay26_apply (r : Fin 128) (d : Fin 8192) : k0_pay26 (F := Ideal) (k0_pay21 (F := Ideal) v) (k0_pay22 (F := Ideal) (k0_pay21 (F := Ideal) v)) k0_pay23 (ix2 r d)
    = code (v (ix2 r d)) (Cert.Scale.inv (quot fun d : Fin 8192 => v (ix2 r d))) := by
  have e21 : k0_pay21 (F := Ideal) v = v := by unfold k0_pay21; exact shapeCast_self _ _
  rw [e21, pay22_eq]
  unfold k0_pay26
  rw [pay24_eq]
  exact vcode_apply v r d
theorem pay27_apply (r : Fin 128) (d : Fin 8192) : k0_pay27 (F := Ideal) (k0_pay21 (F := Ideal) v) (k0_pay22 (F := Ideal) (k0_pay21 (F := Ideal) v)) k0_pay23 (ix2 r d)
    = code (v (ix2 r d)) (Cert.Scale.inv (quot fun d : Fin 8192 => v (ix2 r d))) := by
  unfold k0_pay27
  rw [shapeCast_self]
  exact pay26_apply v r d
end Chunk

/-! ## The pieces together -/

variable (x : Vec Ideal S384x8192 .bf16)

/-- The largest quotient of row `p`. -/
def rowQuot (p : Fin 384) : EReal := quot fun d : Fin 8192 => x (ix2 p d)
/-- The code at an index. -/
def codeAt (y : S384x8192.Idx) : EReal := code (x y) (Cert.Scale.inv (rowQuot x (y 0)))
/-- The scale at a row and lane. -/
def scaleAt (y : S384x128.Idx) : EReal := Cert.Scale.scale (rowQuot x (y 0))

/-- Row `r` of the chunk that starts at row `o`. -/
theorem emb_rows {N : ℕ} (o : ℕ) (inb : ∀ a : Fin 2, (![o, 0] : Fin 2 → ℕ) a + (![128, N] : Fin 2 → ℕ) a ≤ (⟨2, ![384, N]⟩ : Shape).size a) (q : Fin 384) (r : Fin 128)
    (hq : q.val = o + r.val) (d : Fin N) : (Rect.unit (s := ⟨2, ![384, N]⟩) ![o, 0] ![128, N] inb).emb (ix2 r d) = ix2 q d := by
  funext a
  apply Fin.ext
  match a with
  | ⟨0, _⟩ => simp [Rect.unit, Rect.emb, ix2, hq]
  | ⟨1, _⟩ => simp [Rect.unit, Rect.emb, ix2]

theorem ch0_apply (q : Fin 384) (r : Fin 128) (hq : q.val = 0 + r.val) (d : Fin 8192) : ch0 x (ix2 r d) = x (ix2 q d) := congrArg x (emb_rows 0 inb_S384x8192_S128x8192_0_0 q r hq d)
theorem ch1_apply (q : Fin 384) (r : Fin 128) (hq : q.val = 128 + r.val) (d : Fin 8192) : ch1 x (ix2 r d) = x (ix2 q d) := congrArg x (emb_rows 128 inb_S384x8192_S128x8192_128_0 q r hq d)
theorem ch2_apply (q : Fin 384) (r : Fin 128) (hq : q.val = 256 + r.val) (d : Fin 8192) : ch2 x (ix2 r d) = x (ix2 q d) := congrArg x (emb_rows 256 inb_S384x8192_S128x8192_256_0 q r hq d)

/-- A chunk's code is the whole's code. -/
theorem chunk_code (v : FVec Ideal S128x8192 .bf16) (q : Fin 384) (r : Fin 128) (hv : ∀ d : Fin 8192, v (ix2 r d) = x (ix2 q d)) (d : Fin 8192) :
    code (v (ix2 r d)) (Cert.Scale.inv (quot fun d : Fin 8192 => v (ix2 r d))) = codeAt x (ix2 q d) := by
  have e : (fun d : Fin 8192 => v (ix2 r d)) = fun d => x (ix2 q d) := funext hv
  rw [e, hv d]
  rfl
theorem chunk_scale (v : FVec Ideal S128x8192 .bf16) (q : Fin 384) (r : Fin 128) (hv : ∀ d : Fin 8192, v (ix2 r d) = x (ix2 q d)) (σ : Fin 128) :
    Cert.Scale.scale (quot fun d : Fin 8192 => v (ix2 r d)) = scaleAt x (ix2 q σ) := by
  have e : (fun d : Fin 8192 => v (ix2 r d)) = fun d => x (ix2 q d) := funext hv
  rw [e]
  rfl

/-- What a rectangle's embedding reaches lies in it. -/
theorem mem_of_emb {s : Shape} {r : Rect s} {z : r.shape.Idx} {y : s.Idx} (h : r.emb z = y) : y ∈ r.set :=
  (LoadRect.mem_set r.toLoadRect).2 fun a => ⟨(z a).val, (z a).isLt, by rw [← h]; rfl⟩

/-- The three pieces of a chunked array agree with a function of the index, read at each chunk. -/
theorem pieces {N : ℕ} {e : EltTy} (i0 : ∀ a : Fin 2, (![0, 0] : Fin 2 → ℕ) a + (![128, N] : Fin 2 → ℕ) a ≤ (⟨2, ![384, N]⟩ : Shape).size a)
    (i1 : ∀ a : Fin 2, (![128, 0] : Fin 2 → ℕ) a + (![128, N] : Fin 2 → ℕ) a ≤ (⟨2, ![384, N]⟩ : Shape).size a)
    (i2 : ∀ a : Fin 2, (![256, 0] : Fin 2 → ℕ) a + (![128, N] : Fin 2 → ℕ) a ≤ (⟨2, ![384, N]⟩ : Shape).size a)
    (G : (⟨2, ![384, N]⟩ : Shape).Idx → Elt Ideal e) (p0 p1 p2 : (⟨2, ![128, N]⟩ : Shape).Idx → Elt Ideal e)
    (h0 : ∀ (q : Fin 384) (r : Fin 128), q.val = 0 + r.val → ∀ d, p0 (ix2 r d) = G (ix2 q d))
    (h1 : ∀ (q : Fin 384) (r : Fin 128), q.val = 128 + r.val → ∀ d, p1 (ix2 r d) = G (ix2 q d))
    (h2 : ∀ (q : Fin 384) (r : Fin 128), q.val = 256 + r.val → ∀ d, p2 (ix2 r d) = G (ix2 q d)) :
    View.canon (Val := Elt Ideal) (s := ⟨2, ![384, N]⟩) (e := e) [⟨Rect.unit ![256, 0] ![128, N] i2, p2⟩, ⟨Rect.unit ![128, 0] ![128, N] i1, p1⟩, ⟨Rect.unit ![0, 0] ![128, N] i0, p0⟩] = G := by
  funext y
  obtain ⟨q, d, rfl⟩ : ∃ (q : Fin 384) (d : Fin N), y = ix2 q d := ⟨y 0, y 1, eq_ix2 y⟩
  apply View.canon_apply_of_pieces G
  · intro p hp z
    simp only [List.mem_cons, List.not_mem_nil, or_false] at hp
    rcases hp with rfl | rfl | rfl
    · obtain ⟨r, d, rfl⟩ : ∃ (r : Fin 128) (d : Fin N), z = ix2 r d := ⟨z 0, z 1, eq_ix2 (n0 := 128) (n1 := N) z⟩
      have hq : (⟨256 + r.val, by omega⟩ : Fin 384).val = 256 + r.val := rfl
      exact (h2 _ r hq d).trans (congrArg G (emb_rows 256 i2 _ r hq d).symm)
    · obtain ⟨r, d, rfl⟩ : ∃ (r : Fin 128) (d : Fin N), z = ix2 r d := ⟨z 0, z 1, eq_ix2 (n0 := 128) (n1 := N) z⟩
      have hq : (⟨128 + r.val, by omega⟩ : Fin 384).val = 128 + r.val := rfl
      exact (h1 _ r hq d).trans (congrArg G (emb_rows 128 i1 _ r hq d).symm)
    · obtain ⟨r, d, rfl⟩ : ∃ (r : Fin 128) (d : Fin N), z = ix2 r d := ⟨z 0, z 1, eq_ix2 (n0 := 128) (n1 := N) z⟩
      have hq : (⟨0 + r.val, by omega⟩ : Fin 384).val = 0 + r.val := rfl
      exact (h0 _ r hq d).trans (congrArg G (emb_rows 0 i0 _ r hq d).symm)
  · by_cases c1 : q.val < 128
    · exact ⟨_, List.mem_cons_of_mem _ (List.mem_cons_of_mem _ (List.mem_cons_self ..)), mem_of_emb (emb_rows 0 i0 q ⟨q.val, c1⟩ (by simp) d)⟩
    · by_cases c2 : q.val < 256
      · exact ⟨_, List.mem_cons_of_mem _ (List.mem_cons_self ..), mem_of_emb (emb_rows 128 i1 q ⟨q.val - 128, by omega⟩ (by simp only; omega) d)⟩
      · exact ⟨_, List.mem_cons_self .., mem_of_emb (emb_rows 256 i2 q ⟨q.val - 256, by omega⟩ (by simp only; omega) d)⟩

theorem x8of_eq : x8of x = codeAt x := by
  unfold x8of x8L
  exact pieces (e := .fp8e4m3) _ _ _ (codeAt x)
    (k0_pay14 (F := Ideal) (k0_pay6 (F := Ideal) (ch0 x)) (k0_pay7 (F := Ideal) (ch0 x)) (k0_pay8 (F := Ideal) (ch0 x)) (k0_pay9 (F := Ideal) (ch0 x)) (k0_pay10 (F := Ideal) (ch0 x)))
    (k0_pay20 (F := Ideal) (k0_pay15 (F := Ideal) (ch1 x)) (k0_pay16 (F := Ideal) (ch1 x)))
    (k0_pay27 (F := Ideal) (k0_pay21 (F := Ideal) (ch2 x)) (k0_pay22 (F := Ideal) (k0_pay21 (F := Ideal) (ch2 x))) k0_pay23)
    (fun q r hq d => (pay14_apply (ch0 x) r d).trans (chunk_code x (ch0 x) q r (ch0_apply x q r hq) d))
    (fun q r hq d => (pay20_apply (ch1 x) r d).trans (chunk_code x (ch1 x) q r (ch1_apply x q r hq) d))
    (fun q r hq d => (pay27_apply (ch2 x) r d).trans (chunk_code x (ch2 x) q r (ch2_apply x q r hq) d))
theorem codesOf_eq : codesOf x = codeAt x := by
  unfold codesOf codesL
  exact pieces (e := .fp8e4m3) _ _ _ (codeAt x)
    (k0_pay13 (F := Ideal) (k0_pay6 (F := Ideal) (ch0 x)) (k0_pay7 (F := Ideal) (ch0 x)) (k0_pay8 (F := Ideal) (ch0 x)) (k0_pay9 (F := Ideal) (ch0 x)) (k0_pay10 (F := Ideal) (ch0 x)))
    (k0_pay19 (F := Ideal) (k0_pay15 (F := Ideal) (ch1 x)) (k0_pay16 (F := Ideal) (ch1 x)))
    (k0_pay26 (F := Ideal) (k0_pay21 (F := Ideal) (ch2 x)) (k0_pay22 (F := Ideal) (k0_pay21 (F := Ideal) (ch2 x))) k0_pay23)
    (fun q r hq d => (pay13_apply (ch0 x) r d).trans (chunk_code x (ch0 x) q r (ch0_apply x q r hq) d))
    (fun q r hq d => (pay19_apply (ch1 x) r d).trans (chunk_code x (ch1 x) q r (ch1_apply x q r hq) d))
    (fun q r hq d => (pay26_apply (ch2 x) r d).trans (chunk_code x (ch2 x) q r (ch2_apply x q r hq) d))
theorem xsOf_eq : xsOf x = scaleAt x := by
  unfold xsOf xsL
  exact pieces (e := .f32) _ _ _ (scaleAt x)
    (k0_pay12 (F := Ideal) (k0_pay7 (F := Ideal) (ch0 x)) (k0_pay8 (F := Ideal) (ch0 x)) (k0_pay9 (F := Ideal) (ch0 x)) (k0_pay10 (F := Ideal) (ch0 x)))
    (k0_pay18 (F := Ideal) (k0_pay16 (F := Ideal) (ch1 x)))
    (k0_pay25 (F := Ideal) (k0_pay22 (F := Ideal) (k0_pay21 (F := Ideal) (ch2 x))) k0_pay23)
    (fun q r hq d => (pay12_apply (ch0 x) r d).trans (chunk_scale x (ch0 x) q r (ch0_apply x q r hq) d))
    (fun q r hq d => (pay18_apply (ch1 x) r d).trans (chunk_scale x (ch1 x) q r (ch1_apply x q r hq) d))
    (fun q r hq d => (pay25_apply (ch2 x) r d).trans (chunk_scale x (ch2 x) q r (ch2_apply x q r hq) d))

/-- The scale the kernel returns for row `p`. -/
theorem scaleOf_apply (p : Fin 384) : scaleOf (xsOf x) (ix2 p (0 : Fin 1)) = Cert.Scale.scale (rowQuot x p) := by
  rw [xsOf_eq]
  show scaleAt x _ = _
  unfold scaleAt
  congr 2
  apply Fin.ext
  simp [Rect.unit, Rect.emb, ix2]

end Cert.KernelIdeal.Gen

end
-- ==== Proof.Ref.lean ====
/- The reference's values, read at an index. -/
module

public import proofs.«01_k».proof.Proof.Gen.ReferenceIdeal.Skeleton
public import proofs.«01_k».proof.Proof.Fold
public import Idealize.ShloMosaic.Lib.IdealHost
public import proofs.«01_k».proof.Proof.Quant

@[expose] public section

set_option maxRecDepth 16384

noncomputable section

namespace Cert.ReferenceIdeal.Gen

open Idealize.ShloMosaic Idealize.ShloMosaic.ValueIdx
open Cert.KernelIdeal.Gen (quot code lossFn)
open scoped BigOperators

variable (x : FVec Ideal S1x384x8192 .bf16) (w : FVec Ideal S38016x8192 .fp8e4m3) (ws : FVec Ideal S38016x1 .f32) (lab : IVec S1x384 32)

/-- A row's largest magnitude. -/
def amax (p : Fin 384) : EReal := (Finset.univ : Finset (Fin 8192)).sup fun d => max (x (ix3 (0 : Fin 1) p d)) (-(x (ix3 (0 : Fin 1) p d)))
/-- A row's largest quotient. -/
def yq (p : Fin 384) : EReal := quot fun d : Fin 8192 => x (ix3 (0 : Fin 1) p d)
theorem yq_eq (p : Fin 384) : yq x p = amax x p * Ideal.ofBits .f32 0x3B124925#32 := rfl
/-- A row's exponent. -/
def rx (p : Fin 384) : EReal := Cert.Scale.rexp (amax x p) (yq x p)

theorem pay2_apply (p : Fin 384) (d : Fin 8192) : k0_pay2 (F := Ideal) x (ix2 p d) = x (ix3 (0 : Fin 1) p d) := by
  unfold k0_pay2
  exact shapeCast_1ab_ab_apply (a := 384) (b := 8192) _ _ p d

theorem amax_apply (p : Fin 384) (h : S384.ShapeCasts S384x1) (h1 h2 h3) :
    shapeCast S384x1 (multiReduction (F := Ideal) (φ := .f32) .maximumf [1] S384 (absf (k0_pay2 (F := Ideal) x)) 0xFF800000#32 h1 h2 h3) h (ix2 p (0 : Fin 1)) = amax x p := by
  refine (shapeCast_a_a1_apply _ _ p 0).trans ?_
  refine (Cert.Ops.rowMax_apply (m := 384) (n := 8192) (absf (k0_pay2 (F := Ideal) x)) _ _ _ _ Cert.Ops.ofBits_bot_f32 p).trans ?_
  refine Finset.sup_congr rfl fun d _ => ?_
  have e : absf (k0_pay2 (F := Ideal) x) (ix2 p d) = max (k0_pay2 (F := Ideal) x (ix2 p d)) (-(k0_pay2 (F := Ideal) x (ix2 p d))) := rfl
  rw [e, pay2_apply]

/-- The exponent from the row maximum, at an index. -/
theorem vrexp_apply (A : FVec Ideal S384x1 .f32) (j : S384x1.Idx) :
    select (cmpf .oeq A (broadcast S384x1 (Scalar.ofBits (F := Ideal) .f32 0x00000000#32))) (broadcast S384x1 (Scalar.ofBits (F := Ideal) .f32 0x00000000#32))
      (addf (floor (divf (log (mulf A (broadcast S384x1 (Scalar.ofBits (F := Ideal) .f32 0x3B124925#32)))) (broadcast S384x1 (Scalar.log (Scalar.ofBits (F := Ideal) .f32 0x40000000#32)))))
        (broadcast S384x1 (Scalar.ofBits (F := Ideal) .f32 0x3F800000#32))) j
      = Cert.Scale.rexp (A j) (A j * Ideal.ofBits .f32 0x3B124925#32) := by
  unfold Cert.Scale.rexp
  rw [← Ideal.ofBits_zero_f32, ← Ideal.ofBits_one_f32]
  rfl

theorem pay3_apply (p : Fin 384) : k0_pay3 (F := Ideal) x (ix2 p (0 : Fin 1)) = rx x p := by
  unfold k0_pay3
  refine (vrexp_apply _ _).trans ?_
  exact congrArg (fun A => Cert.Scale.rexp A (A * Ideal.ofBits .f32 0x3B124925#32)) (amax_apply x p _ _ _ _)

theorem pay4_apply (p : Fin 384) : k0_pay4 (F := Ideal) x (ix2 p (0 : Fin 1)) = Ideal.exp2 (rx x p) := by
  have e : ∀ (R : FVec Ideal S384x1 .f32) (j : S384x1.Idx), exp2 R j = Ideal.exp2 (R j) := fun _ _ => rfl
  unfold k0_pay4
  rw [e, pay3_apply]

theorem pay5_apply (p : Fin 384) (d : Fin 8192) : k0_pay5 (F := Ideal) x (ix2 p d) = code (x (ix3 (0 : Fin 1) p d)) (Ideal.exp2 (0 - rx x p)) := by
  have e : ∀ (X : FVec Ideal S384x8192 .f32) (B : FVec Ideal S384x8192 .f32) (y : S384x8192.Idx),
      truncf .fp8e4m3 (minimumf (broadcast S384x8192 (Scalar.ofBits (F := Ideal) .f32 0x43E00000#32)) (maximumf (broadcast S384x8192 (Scalar.ofBits (F := Ideal) .f32 0xC3E00000#32)) (mulf X B)))
        bitsLt_fp8e4m3_f32 y = code (X y) (B y) := fun _ _ _ => rfl
  unfold k0_pay5
  refine (e _ _ _).trans ?_
  rw [pay2_apply]
  refine congrArg (code _) ((Cert.Ops.broadcastTo_a1_ab_apply _ _ p d).trans ?_)
  have e2 : ∀ (R : FVec Ideal S384x1 .f32) (j : S384x1.Idx), exp2 (subf (broadcast S384x1 (Scalar.ofBits (F := Ideal) .f32 0x00000000#32)) R) j = Ideal.exp2 (Ideal.ofBits .f32 0x00000000#32 - R j) := fun _ _ => rfl
  rw [e2, Ideal.ofBits_zero_f32, pay3_apply]

/-- The logits. -/
def logit (p : Fin 384) (v : Fin 38016) : EReal :=
  ((∑ d : Fin 8192, code (x (ix3 (0 : Fin 1) p d)) (Ideal.exp2 (0 - rx x p)) * w (ix2 v d)) * Ideal.exp2 (rx x p)) * ws (ix2 v (0 : Fin 1))

theorem shapeCast_a1_a_1a_apply {α : Type} {a : ℕ} (z : (⟨2, ![a, 1]⟩ : Shape).Idx → α) (h1 : (⟨2, ![a, 1]⟩ : Shape).ShapeCasts ⟨1, ![a]⟩) (h2 : (⟨1, ![a]⟩ : Shape).ShapeCasts ⟨2, ![1, a]⟩) (i : Fin a) :
    shapeCast ⟨2, ![1, a]⟩ (shapeCast ⟨1, ![a]⟩ z h1) h2 (ix2 (0 : Fin 1) i) = z (ix2 i (0 : Fin 1)) :=
  (shapeCast_a_1a_apply _ _ 0 i).trans (Cert.Ops.shapeCast_a1_a_apply z h1 i)

theorem pay6_apply (p : Fin 384) (v : Fin 38016) : k0_pay6 (F := Ideal) x w ws (ix2 p v) = logit x w ws p v := by
  unfold k0_pay6 logit
  refine (mulf_apply _ _ _).trans ?_
  refine congrArg₂ (· * ·) ((mulf_apply _ _ _).trans (congrArg₂ (· * ·) ?_ ?_)) ?_
  · refine (Cert.Ops.matmul_zero_apply (M := 384) (K := 8192) (N := 38016) none dot_S384x8192_S38016x8192_S384x38016_1_1_0_0_n_n rfl (k0_pay5 (F := Ideal) x) w p v).trans ?_
    exact Finset.sum_congr rfl fun d _ => congrArg (· * w (ix2 v d)) (pay5_apply x p d)
  · exact (Cert.Ops.broadcastTo_a1_ab_apply _ _ p v).trans (pay4_apply x p)
  · exact (broadcastTo_1b_ab_apply _ _ p v).trans (shapeCast_a1_a_1a_apply ws _ _ v)

theorem pay7_apply (p : Fin 384) : k0_pay7 (F := Ideal) x w ws (ix1 p) = (Finset.univ : Finset (Fin 38016)).sup fun v => logit x w ws p v := by
  unfold k0_pay7
  refine (Cert.Ops.rowMax_apply (m := 384) (n := 38016) (k0_pay6 (F := Ideal) x w ws) _ _ _ _ Cert.Ops.ofBits_bot_f32 p).trans ?_
  exact Finset.sup_congr rfl fun v _ => pay6_apply x w ws p v

theorem pay8_apply (p : Fin 384) (v : Fin 38016) : k0_pay8 (F := Ideal) x w ws (ix2 p v) = (Finset.univ : Finset (Fin 38016)).sup fun v => logit x w ws p v := by
  unfold k0_pay8
  refine (Cert.Ops.broadcastTo_a1_ab_apply _ _ p v).trans ?_
  exact (shapeCast_a_a1_apply _ _ p 0).trans (pay7_apply x w ws p)

/-- A class's word against a label, at an index. -/
theorem isLabel_apply (h1 : S1x384.ShapeCasts S384) (h2 : S384.ShapeCasts S384x1) (h3 : S384x1.Broadcasts S384x38016) (hi) (p : Fin 384) (v : Fin 38016) :
    cmpi .eq (iota .tc S384x38016 32 [1] hi) (broadcastTo S384x38016 (shapeCast S384x1 (shapeCast S384 lab h1) h2) h3) (ix2 p v)
      = BitVec.ofBool (decide (BitVec.ofNat 32 v.val = lab (ix2 (0 : Fin 1) p))) := by
  have e : ∀ (a b : IVec S384x38016 32) (y : S384x38016.Idx), cmpi .eq a b y = BitVec.ofBool (decide (a y = b y)) := fun _ _ _ => rfl
  rw [e, iota_single_apply]
  refine congrArg (fun z => BitVec.ofBool (decide (BitVec.ofNat 32 v.val = z))) ?_
  refine (Cert.Ops.broadcastTo_a1_ab_apply _ _ p v).trans ?_
  exact (shapeCast_a_a1_apply _ _ p 0).trans (shapeCast_1a_a_apply lab h1 p)

theorem rowSum38016 (src : FVec Ideal S384x38016 .f32) (p : Fin 384) :
    multiReduction (F := Ideal) (φ := .f32) .add [1] S384 src 0x00000000#32 reduces_S384x38016_S384 (.inl rfl) rfl (ix1 p) = ∑ v : Fin 38016, src (ix2 p v) :=
  Cert.Ops.rowSum_apply (m := 384) (n := 38016) src _ _ _ _ p

/-- The loss's arithmetic on columns, at an index. -/
theorem lossVec_apply (M E S P : FVec Ideal S384 .f32) (j : S384.Idx) :
    subf (addf (mulf (broadcast S384 (Scalar.ofBits (F := Ideal) .f32 0x3F666666#32)) (subf (addf M (log E)) P))
      (mulf (broadcast S384 (Scalar.ofBits (F := Ideal) .f32 0x3DCCCCCD#32)) (subf (addf M (log E)) (divf S (broadcast S384 (Scalar.ofBits (F := Ideal) .f32 0x47148000#32))))))
      (broadcast S384 (Scalar.ofBits (F := Ideal) .f32 0x4128BB71#32)) j = lossFn (M j) (E j) (S j) (P j) := by
  unfold lossFn
  simp only [subf_apply, addf_apply, mulf_apply, divf_apply, Cert.KernelIdeal.Gen.log_apply, Cert.KernelIdeal.Gen.splat_apply]

/-- The loss from the logits. -/
theorem pay1_apply (p : Fin 384) :
    k0_pay1 (F := Ideal) (k0_pay6 (F := Ideal) x w ws) (k0_pay7 (F := Ideal) x w ws) (k0_pay8 (F := Ideal) x w ws) lab (ix2 p (0 : Fin 1))
      = lossFn ((Finset.univ : Finset (Fin 38016)).sup fun v => logit x w ws p v)
        (∑ v : Fin 38016, Ideal.exp (logit x w ws p v - (Finset.univ : Finset (Fin 38016)).sup fun v => logit x w ws p v))
        (∑ v : Fin 38016, logit x w ws p v)
        (∑ v : Fin 38016, if BitVec.ofNat 32 v.val = lab (ix2 (0 : Fin 1) p) then logit x w ws p v else 0) := by
  have hE : ∀ v : Fin 38016, exp (subf (k0_pay6 (F := Ideal) x w ws) (k0_pay8 (F := Ideal) x w ws)) (ix2 p v)
      = Ideal.exp (logit x w ws p v - (Finset.univ : Finset (Fin 38016)).sup fun v => logit x w ws p v) := fun v => by
    have e : ∀ (A B : FVec Ideal S384x38016 .f32) (y : S384x38016.Idx), exp (subf A B) y = Ideal.exp (A y - B y) := fun _ _ _ => rfl
    rw [e, pay6_apply, pay8_apply]
  have hS : ∑ v : Fin 38016, k0_pay6 (F := Ideal) x w ws (ix2 p v) = ∑ v : Fin 38016, logit x w ws p v := Finset.sum_congr rfl fun v _ => pay6_apply x w ws p v
  have hL : ∀ v : Fin 38016, select (cmpi .eq (iota .tc S384x38016 32 [1] iota_S384x38016_d1_w32)
        (broadcastTo S384x38016 (shapeCast S384x1 (shapeCast S384 lab shapeCasts_S1x384_S384) shapeCasts_S384_S384x1) broadcasts_S384x1_S384x38016))
        (k0_pay6 (F := Ideal) x w ws) (broadcast S384x38016 (Scalar.ofBits (F := Ideal) .f32 0x00000000#32)) (ix2 p v)
      = if BitVec.ofNat 32 v.val = lab (ix2 (0 : Fin 1) p) then logit x w ws p v else 0 := fun v => by
    have e : ∀ (C : IVec S384x38016 1) (A : FVec Ideal S384x38016 .f32) (y : S384x38016.Idx),
        select C A (broadcast S384x38016 (Scalar.ofBits (F := Ideal) .f32 0x00000000#32)) y = Scalar.select (C y) (A y) (Ideal.ofBits .f32 0x00000000#32) := fun _ _ _ => rfl
    rw [e, isLabel_apply, pay6_apply, Ideal.ofBits_zero_f32, Cert.KernelIdeal.Gen.select_ofBool]
  have fn : ∀ {M M' E E' S S' P P' : EReal}, M = M' → E = E' → S = S' → P = P' → lossFn M E S P = lossFn M' E' S' P' := by
    intro M M' E E' S S' P P' h1 h2 h3 h4
    rw [h1, h2, h3, h4]
  unfold k0_pay1
  refine (shapeCast_a_a1_apply _ _ p 0).trans ?_
  refine (lossVec_apply _ _ _ _ (ix1 p)).trans ?_
  refine fn (pay7_apply x w ws p) ?_ ?_ ?_
  · exact (rowSum38016 _ p).trans (Finset.sum_congr rfl fun v _ => hE v)
  · exact (rowSum38016 _ p).trans hS
  · exact (rowSum38016 _ p).trans (Finset.sum_congr rfl fun v _ => hL v)

end Cert.ReferenceIdeal.Gen

end
-- ==== Proof.Match.lean ====
/- The kernel's results are the reference's, at an index. -/
module

public import proofs.«01_k».proof.Proof.Blocks
public import proofs.«01_k».proof.Proof.Ref
public import proofs.«01_k».proof.Proof.Fold
public import proofs.«01_k».proof.Proof.Quant

@[expose] public section

set_option maxRecDepth 16384

noncomputable section

namespace Cert.Match

open Idealize.ShloMosaic Idealize.ShloMosaic.TcCoe Idealize.ShloMosaic.ValueIdx Cert.KernelIdeal Cert.KernelIdeal.Gen
open scoped BigOperators

variable (m : (ℓ : Loc nD τ sig) → Buf (Elt Ideal) ℓ) (c : Dev nD)

/-- What is asked of the arguments: each row's largest quotient is in range, and each label is a class. -/
def Good : Prop := (∀ p : Fin 384, Cert.Scale.InRange (quot fun d : Fin 8192 => a0 m c (ix3 (0 : Fin 1) p d)))
  ∧ ∀ p : Fin 384, IntOp.cmpi .slt (a3 m c (ix2 (0 : Fin 1) p)) 38016#32 = 1#1

/-- A row's exponent, as the reference finds it. -/
def ex (p : Fin 384) : EReal := Cert.ReferenceIdeal.Gen.rx (a0 m c) p

/-- The reference's logits. -/
def lg (p : Fin 384) (v : Fin 38016) : EReal := Cert.ReferenceIdeal.Gen.logit (a0 m c) (a1 m c) (a2 m c) p v

theorem rowQuot_xIn (p : Fin 384) : rowQuot (xIn m c) p = quot fun d : Fin 8192 => a0 m c (ix3 (0 : Fin 1) p d) :=
  congrArg quot (funext fun d => xIn_apply m c p d)

variable {m c}

/-- The kernel's scale and inverse scale of a row are the powers of two that the reference takes. -/
theorem scale_row (h : Good m c) (p : Fin 384) :
    Cert.Scale.scale (rowQuot (xIn m c) p) = Ideal.exp2 (ex m c p) ∧ Cert.Scale.inv (rowQuot (xIn m c) p) = Ideal.exp2 (0 - ex m c p) := by
  rw [rowQuot_xIn]
  exact Cert.Scale.scale_eq (Cert.ReferenceIdeal.Gen.yq_eq (a0 m c) p) (h.1 p)

theorem codeAt_apply (h : Good m c) (p : Fin 384) (d : Fin 8192) :
    codeAt (xIn m c) (ix2 p d) = code (a0 m c (ix3 (0 : Fin 1) p d)) (Ideal.exp2 (0 - ex m c p)) := by
  have e : codeAt (xIn m c) (ix2 p d) = code (xIn m c (ix2 p d)) (Cert.Scale.inv (rowQuot (xIn m c) p)) := rfl
  rw [e, (scale_row h p).2, xIn_apply]

theorem scaleAt_apply (h : Good m c) (p : Fin 384) (σ : Fin 128) : scaleAt (xIn m c) (ix2 p σ) = Ideal.exp2 (ex m c p) := by
  have e : scaleAt (xIn m c) (ix2 p σ) = Cert.Scale.scale (rowQuot (xIn m c) p) := rfl
  rw [e, (scale_row h p).1]

/-- The codes. -/
theorem codes (h : Good m c) : codesOf (xIn m c) = Cert.ReferenceIdeal.Gen.k0_pay5 (F := Ideal) (a0 m c) := by
  rw [codesOf_eq]
  funext y
  obtain ⟨p, d, rfl⟩ : ∃ (p : Fin 384) (d : Fin 8192), y = ix2 p d := ⟨y 0, y 1, eq_ix2 (n0 := 384) (n1 := 8192) y⟩
  exact (codeAt_apply h p d).trans (Cert.ReferenceIdeal.Gen.pay5_apply (a0 m c) p d).symm

/-- The scales. -/
theorem scales (h : Good m c) : scaleOf (xsOf (xIn m c)) = Cert.ReferenceIdeal.Gen.k0_pay4 (F := Ideal) (a0 m c) := by
  funext y
  obtain ⟨p, u, rfl⟩ : ∃ (p : Fin 384) (u : Fin 1), y = ix2 p u := ⟨y 0, y 1, eq_ix2 (n0 := 384) (n1 := 1) y⟩
  obtain rfl : u = 0 := Subsingleton.elim _ _
  exact (scaleOf_apply (xIn m c) p).trans ((scale_row h p).1.trans (Cert.ReferenceIdeal.Gen.pay4_apply (a0 m c) p).symm)

variable (m c) in
/-- The reference's logits, over all numbers. -/
def g (p : Fin 384) (n : ℕ) : EReal := if h : n < 38016 then lg m c p ⟨n, h⟩ else 0

theorem g_val (p : Fin 384) (v : Fin 38016) : g m c p v.val = lg m c p v := dif_pos v.isLt

/-- The logits a block gives. -/
theorem tile (h : Good m c) (t : Fin cfg0.N) (d2 : Vec Ideal S768x8192 .fp8e4m3) (d3 : Vec Ideal S1x768 .f32) (p : Fin 384) (σ : Fin 128) (k : Fin 6)
    (hv : 128 * (6 * t.val + k.val) + σ.val < 38016) :
    tl (x8of (xIn m c)) (xsOf (xIn m c)) (wIn m c t d2) (wsIn m c t d3) p σ (col k σ) = g m c p (128 * (6 * t.val + k.val) + σ.val) := by
  have hc : (⟨128 * (6 * t.val + k.val) + σ.val, hv⟩ : Fin 38016).val = 768 * t.val + (col k σ).val := by
    show 128 * (6 * t.val + k.val) + σ.val = 768 * t.val + (128 * k.val + σ.val)
    omega
  refine Eq.trans ?_ (g_val p ⟨128 * (6 * t.val + k.val) + σ.val, hv⟩).symm
  generalize (⟨128 * (6 * t.val + k.val) + σ.val, hv⟩ : Fin 38016) = v at hc
  unfold tl lg Cert.ReferenceIdeal.Gen.logit
  rw [x8of_eq, xsOf_eq, scaleAt_apply h, wsIn_apply m c t d3 (col k σ) v hc]
  refine congrArg (fun z => z * Ideal.exp2 (ex m c p) * a2 m c (ix2 v (0 : Fin 1))) ?_
  refine Finset.sum_congr rfl fun d _ => ?_
  rw [codeAt_apply h, wIn_apply m c t d2 (col k σ) d v hc]
  rfl

/-- The loss. -/
theorem loss (h : Good m c) (s : St Ideal) (hs : Reach m c 50 s) :
    lossOf s = Cert.ReferenceIdeal.Gen.k0_pay1 (F := Ideal) (Cert.ReferenceIdeal.Gen.k0_pay6 (F := Ideal) (a0 m c) (a1 m c) (a2 m c))
      (Cert.ReferenceIdeal.Gen.k0_pay7 (F := Ideal) (a0 m c) (a1 m c) (a2 m c)) (Cert.ReferenceIdeal.Gen.k0_pay8 (F := Ideal) (a0 m c) (a1 m c) (a2 m c)) (a3 m c) := by
  have hinv := Inv_reach m c (g m c) (fun t d2 d3 p σ k hv => tile h t d2 d3 p σ k hv) (fun p => by rw [labIn_apply]; exact h.2 p) 50 s hs
  funext y
  obtain ⟨p, u, rfl⟩ : ∃ (p : Fin 384) (u : Fin 1), y = ix2 p u := ⟨y 0, y 1, eq_ix2 (n0 := 384) (n1 := 1) y⟩
  obtain rfl : u = 0 := Subsingleton.elim _ _
  refine (loss_eq hinv p).trans (Eq.trans ?_ (Cert.ReferenceIdeal.Gen.pay1_apply (a0 m c) (a1 m c) (a2 m c) (a3 m c) p).symm)
  have e : (fun v : Fin 38016 => g m c p v.val) = fun v => Cert.ReferenceIdeal.Gen.logit (a0 m c) (a1 m c) (a2 m c) p v := funext fun v => g_val p v
  have e' : ∀ v : Fin 38016, g m c p v.val = Cert.ReferenceIdeal.Gen.logit (a0 m c) (a1 m c) (a2 m c) p v := fun v => g_val p v
  rw [labIn_apply]
  simp only [e']

end Cert.Match

end
-- ==== Proof.Pre.lean ====
/- What the precondition says of the arguments, at an index. -/
module

public import proofs.«01_k».proof.Proof.Gen.Pre_tame
public import proofs.«01_k».proof.Proof.Quant
public import Idealize.ShloMosaic.Lib.KernelVsHost

@[expose] public section

set_option maxRecDepth 16384

noncomputable section

namespace Cert.Pre_tame.Gen

open Idealize.ShloMosaic Idealize.ShloMosaic.ValueIdx Cert.KernelIdeal.Gen
open scoped BigOperators

variable (x : FVec Ideal S1x384x8192 .bf16)

theorem reduces_rows : S384x8192.Reduces [1] S384 := by decide

theorem max_rows (y : FVec Ideal S384x8192 .f32) :
    Host.reduce FloatOps.maximumf y (constant (F := Ideal) S_ .f32 0xFF800000#32) reducesTo_S384x8192_S384_d1 h_S_
      = multiReduction (F := Ideal) (φ := .f32) .maximumf [1] S384 y 0xFF800000#32 reduces_rows (.inl rfl) rfl :=
  hostReduce_maximumf_eq_multiReduction (F := Ideal) (φ := .f32) y 0xFF800000#32 reducesTo_S384x8192_S384_d1 h_S_ reduces_rows (.inl rfl) rfl

/-- The rows' largest quotients, as the precondition computes them. -/
def quots : FVec Ideal S384x1 .f32 :=
  mulf (broadcastInDim S384x1 ![0] bcast_S384_S384x1_0
      (Host.reduce FloatOps.maximumf (Host.absf (shapeCast S384x8192 (extf .f32 x bitsLt_bf16_f32) shapeCasts_S1x384x8192_S384x8192))
        (constant S_ .f32 0xFF800000#32) reducesTo_S384x8192_S384_d1 h_S_))
    (broadcastInDim S384x1 ![] bcast_S_S384x1 (constant (F := Ideal) S_ .f32 0x3B124925#32))

theorem quots_apply (p : Fin 384) : quots x (ix2 p (0 : Fin 1)) = quot fun d : Fin 8192 => x (ix3 (0 : Fin 1) p d) := by
  unfold quots
  rw [mulf_apply]
  unfold quot
  refine congrArg (· * Ideal.ofBits .f32 0x3B124925#32) ?_
  refine (broadcastInDim_apply _ _ _ (ix2 p (0 : Fin 1)) (ix1 p) ?_).trans ?_
  · intro a
    match a with
    | ⟨0, _⟩ => rfl
  rw [max_rows]
  refine (Cert.Ops.rowMax_apply _ _ _ _ _ Cert.Ops.ofBits_bot_f32 p).trans ?_
  refine Finset.sup_congr rfl fun d _ => ?_
  have e : ∀ y : FVec Ideal S384x8192 .f32, ∀ j, Host.absf y j = max (y j) (-(y j)) := fun _ _ => rfl
  rw [e]
  have e2 : shapeCast S384x8192 (extf .f32 x bitsLt_bf16_f32) shapeCasts_S1x384x8192_S384x8192 (ix2 p d) = x (ix3 (0 : Fin 1) p d) :=
    shapeCast_1ab_ab_apply _ _ p d
  rw [e2]

/-- Two words' disjunction, and conjunction, read as propositions. -/
theorem bit_or (a b : Bool) : (BitVec.ofBool a ||| BitVec.ofBool b = 1#1) → a = true ∨ b = true := by revert a b; decide
theorem bit_and (a b : Bool) : BitVec.ofBool a &&& BitVec.ofBool b = BitVec.ofBool (a && b) := by revert a b; decide

/-- The precondition's first result is its comparisons of the largest quotients. -/
theorem first_eq (w : FVec Ideal S38016x8192 .fp8e4m3) (ws : FVec Ideal S38016x1 .f32) (lab : IVec S1x384 32) :
    (Cert.Pre_tame.fn (F := Ideal) x w ws lab).1
      = ori (cmpf .oeq (quots x) (broadcastInDim S384x1 ![] bcast_S_S384x1 (constant (F := Ideal) S_ .f32 0x00000000#32)))
          (andi (cmpf .oge (quots x) (broadcastInDim S384x1 ![] bcast_S_S384x1 (constant (F := Ideal) S_ .f32 0x00800000#32)))
            (cmpf .olt (quots x) (broadcastInDim S384x1 ![] bcast_S_S384x1 (constant (F := Ideal) S_ .f32 0x7E800000#32)))) := by
  unfold Cert.Pre_tame.fn quots
  rfl

/-- Each comparison at an index. -/
theorem cmp_apply (y : FVec Ideal S384x1 .f32) (j : S384x1.Idx) :
    ori (cmpf .oeq y (broadcastInDim S384x1 ![] bcast_S_S384x1 (constant (F := Ideal) S_ .f32 0x00000000#32)))
          (andi (cmpf .oge y (broadcastInDim S384x1 ![] bcast_S_S384x1 (constant (F := Ideal) S_ .f32 0x00800000#32)))
            (cmpf .olt y (broadcastInDim S384x1 ![] bcast_S_S384x1 (constant (F := Ideal) S_ .f32 0x7E800000#32)))) j
      = BitVec.ofBool (decide (y j = Ideal.ofBits .f32 0x00000000#32))
        ||| (BitVec.ofBool (decide (Ideal.ofBits .f32 0x00800000#32 ≤ y j)) &&& BitVec.ofBool (decide (y j < Ideal.ofBits .f32 0x7E800000#32))) := rfl

/-- Where the precondition holds, each row's largest quotient is zero or an ordinary number below the largest power of two but one. -/
theorem inRange (w : FVec Ideal S38016x8192 .fp8e4m3) (ws : FVec Ideal S38016x1 .f32) (lab : IVec S1x384 32)
    (h : (Cert.Pre_tame.fn (F := Ideal) x w ws lab).1 = fun _ => 1#1) (p : Fin 384) :
    Cert.Scale.InRange (quot fun d : Fin 8192 => x (ix3 (0 : Fin 1) p d)) := by
  have h1 := congrFun h (ix2 p (0 : Fin 1))
  rw [first_eq, cmp_apply, quots_apply, bit_and] at h1
  rcases bit_or _ _ h1 with h2 | h2
  · left
    rw [← Ideal.ofBits_zero_f32]
    exact of_decide_eq_true h2
  · right
    rw [Bool.and_eq_true] at h2
    exact ⟨of_decide_eq_true h2.1, of_decide_eq_true h2.2⟩

/-- Where the precondition holds, each label is below the vocabulary's size. -/
theorem label_lt (w : FVec Ideal S38016x8192 .fp8e4m3) (ws : FVec Ideal S38016x1 .f32) (lab : IVec S1x384 32)
    (h : (Cert.Pre_tame.fn (F := Ideal) x w ws lab).2 = fun _ => 1#1) (p : Fin 384) :
    IntOp.cmpi .slt (lab (ix2 (0 : Fin 1) p)) 38016#32 = 1#1 := congrFun h (ix2 (0 : Fin 1) p)

end Cert.Pre_tame.Gen

end
-- ==== Proof.Algebra.lean ====
/- The kernel's three results are the reference's, for every argument that the precondition allows. -/
module

public import proofs.«01_k».proof.Defs
public import proofs.«01_k».proof.Proof.KVal
public import proofs.«01_k».proof.Proof.RVal
public import proofs.«01_k».proof.Proof.Match
public import proofs.«01_k».proof.Proof.Pre
public import Idealize.ShloMosaic.Lib.Claim

@[expose] public section

set_option maxRecDepth 16384

noncomputable section

namespace Cert.Algebra

open Idealize.ShloMosaic Idealize.ShloMosaic.TcCoe Idealize.SL.Sem Cert.KernelIdeal.Gen

/-- Where the precondition holds the arguments are as the proof asks. -/
theorem good (m : (ℓ : Loc Cert.KernelIdeal.nD Cert.KernelIdeal.τ Cert.KernelIdeal.sig) → Buf (Elt Ideal) ℓ) (h : Cert.Pre_KernelIdeal_tame m) (c : Dev Cert.KernelIdeal.nD) :
    Cert.Match.Good m c :=
  ⟨fun p => Cert.Pre_tame.Gen.inRange (a0 m c) (a1 m c) (a2 m c) (a3 m c) (h c).1 p,
    fun p => Cert.Pre_tame.Gen.label_lt (a0 m c) (a1 m c) (a2 m c) (a3 m c) (h c).2 p⟩

/-- The three results, as functions of the arguments. -/
def loss (x : Vec Ideal Cert.ReferenceIdeal.S1x384x8192 .bf16) (w : Vec Ideal Cert.ReferenceIdeal.S38016x8192 .fp8e4m3) (ws : Vec Ideal Cert.ReferenceIdeal.S38016x1 .f32)
    (lab : Vec Ideal Cert.ReferenceIdeal.S1x384 .i32) : Vec Ideal Cert.ReferenceIdeal.S384x1 .f32 :=
  Cert.ReferenceIdeal.Gen.k0_pay1 (F := Ideal) (Cert.ReferenceIdeal.Gen.k0_pay6 (F := Ideal) x w ws) (Cert.ReferenceIdeal.Gen.k0_pay7 (F := Ideal) x w ws)
    (Cert.ReferenceIdeal.Gen.k0_pay8 (F := Ideal) x w ws) lab
def codes (x : Vec Ideal Cert.ReferenceIdeal.S1x384x8192 .bf16) : Vec Ideal Cert.ReferenceIdeal.S384x8192 .fp8e4m3 := Cert.ReferenceIdeal.Gen.k0_pay5 (F := Ideal) x
def scales (x : Vec Ideal Cert.ReferenceIdeal.S1x384x8192 .bf16) : Vec Ideal Cert.ReferenceIdeal.S384x1 .f32 := Cert.ReferenceIdeal.Gen.k0_pay4 (F := Ideal) x

/-- The kernel and the reference, from equal arguments, end with equal losses, codes and scales and leave the arguments alone. -/
theorem algebraic : Cert.algebraic_KernelIdeal_ReferenceIdeal_pre_tame := by
  intro m ρ m' ρ' hpre hargs
  refine ⟨fun c => loss (a0 m c) (a1 m c) (a2 m c) (a3 m c), fun c => codes (a0 m c), fun c => scales (a0 m c), ?_, ?_⟩
  · refine (θ_run _ _ _).mono ?_ (θ_run_and (Cert.KernelIdeal.Gen.run_ends m ρ) (Cert.KernelIdeal.Gen.frame (F := Ideal) m ρ))
    rintro r ⟨h1, h2⟩ c
    obtain ⟨⟨s, hs, e0⟩, e1, e2⟩ := h1 c
    have hg := good m hpre c
    exact ⟨e0.trans (Cert.Match.loss hg s hs), e1.trans (Cert.Match.codes hg), e2.trans (Cert.Match.scales hg), h2.1 c⟩
  · refine (θ_run _ _ _).mono ?_ (θ_run_and (Cert.ReferenceIdeal.Gen.run_ends m' ρ') (Cert.ReferenceIdeal.Gen.frame (F := Ideal) m' ρ'))
    rintro r ⟨h1, h2⟩ c
    obtain ⟨e0, e1, e2⟩ := h1 c
    obtain ⟨q0, q1, q2, q3⟩ := hargs c
    have b0 : Cert.ReferenceIdeal.Gen.b0 m' c = a0 m c := q0
    have b1 : Cert.ReferenceIdeal.Gen.b1 m' c = a1 m c := q1
    have b2 : Cert.ReferenceIdeal.Gen.b2 m' c = a2 m c := q2
    have b3 : Cert.ReferenceIdeal.Gen.b3 m' c = a3 m c := q3
    rw [b0, b1, b2, b3] at e0
    rw [b0] at e1 e2
    exact ⟨e0, e1, e2, h2.1 c⟩

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import proofs.«01_k».proof.Proof.Run
public import proofs.«01_k».proof.Proof.KRun
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The idealised kernel reads its mask constant as minus infinity, and the printed one computes the named pattern. -/
theorem preserves : Cert.preserves_Kernel_KernelIdeal :=
  IdealRules.named_const.statement Cert.KernelIdeal.κ "mask" .f32 0xFF61B1E6#32 ⊥ rfl

/-- Every claim of the certificate: each program runs and leaves its arguments alone with its semaphores at zero, the idealisation is a sanctioned one, and the kernel's three results are the reference's. -/
theorem claim : Cert.Claim := ⟨Cert.Kernel.Gen.facts, Cert.KernelIdeal.Gen.facts, Cert.ReferenceIdeal.Gen.facts, Cert.Pre_tame.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  preserves,
  Cert.Algebra.algebraic⟩

end Cert.Proof

end
